-- ==== Defs.lean ====
def Pre_Kernel [hPre_sorted_slots : Cert.Pre_sorted_slots.Facts] (m : (ℓ : Loc Cert.Kernel.nD Cert.Kernel.τ Cert.Kernel.sig) → Buf (Elt Bits) ℓ) : Prop :=
  ∀ c : Dev Cert.Kernel.nD,
    (Cert.Pre_sorted_slots.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sorted_slots : Cert.Pre_sorted_slots.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_slots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_slots [hPre_sorted_slots : Cert.Pre_sorted_slots.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_slots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sorted_slots : Cert.Pre_sorted_slots.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sorted_slots : Cert.Pre_sorted_slots.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_slots [hReferenceIdeal : Cert.ReferenceIdeal.Facts] [hPre_sorted_slots : Cert.Pre_sorted_slots.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_slots m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_slots : Cert.Pre_sorted_slots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_slots : Cert.Pre_sorted_slots.Facts),
    quiescent_Kernel (hKernel := hKernel) (hPre_sorted_slots := hPre_sorted_slots)
    ∧ quiescent_KernelIdeal (hKernelIdeal := hKernelIdeal) (hPre_sorted_slots := hPre_sorted_slots)
    ∧ quiescent_ReferenceIdeal (hReferenceIdeal := hReferenceIdeal)
    ∧ quiescent_ReferenceIdeal_pre_sorted_slots (hReferenceIdeal := hReferenceIdeal) (hPre_sorted_slots := hPre_sorted_slots)
    ∧ preserves_Kernel_KernelIdeal
    ∧ algebraic_KernelIdeal_ReferenceIdeal (hKernelIdeal := hKernelIdeal) (hReferenceIdeal := hReferenceIdeal) (hPre_sorted_slots := hPre_sorted_slots)
-- ==== Pre_sorted_slots.lean ====
abbrev S4096x2048 : Shape := ⟨2, ![4096, 2048]⟩
abbrev S8x2048x64 : Shape := ⟨3, ![8, 2048, 64]⟩
abbrev S8x64x4096 : Shape := ⟨3, ![8, 64, 4096]⟩
abbrev S4096 : Shape := ⟨1, ![4096]⟩
abbrev S_ : Shape := ⟨0, ![]⟩
abbrev S4095 : Shape := ⟨1, ![4095]⟩

class Facts : Prop where
  bcast_S_S4096 : S_.BroadcastsInDim S4096 (![] : Fin 0 → Fin S4096.rank)
  reducesTo_S4096_S_d0 : S4096.ReducesTo [0] S_
  h_S_ : 0 < S_.numel
  slices_S4096_S4095_0 : S4096.Slices ![0] S4095
  slices_S4096_S4095_1 : S4096.Slices ![1] S4095
  reducesTo_S4095_S_d0 : S4095.ReducesTo [0] S_

variable [Facts]

def fn {F : FTy → Type} [FloatOps F] (main_arg0 : FVec F S4096x2048 .f32) (main_arg1 : FVec F S8x2048x64 .f32) (main_arg2 : FVec F S8x64x4096 .f32) (main_arg3 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg3 main_v0
  let main_c_0 : IVec S_ 32 := constantI S_ 32 8#32
  let main_v2 : IVec S4096 32 := broadcastInDim S4096 ![] bcast_S_S4096 main_c_0
  let main_v3 : IVec S4096 1 := cmpi .slt main_arg3 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : IVec S4095 32 := (extractStridedSlice S4095 ![0] · slices_S4096_S4095_0) main_arg3
  let main_v7 : IVec S4095 32 := (extractStridedSlice S4095 ![1] · slices_S4096_S4095_1) main_arg3
  let main_v8 : IVec S4095 1 := cmpi .sle main_v6 main_v7
  let main_c_2 : IVec S_ 1 := constantI S_ 1 1#1
  let main_v9 : IVec S_ 1 := (fun x v => Host.reduce IntOp.andi x v reducesTo_S4095_S_d0 h_S_) main_v8 main_c_2
  let main_v10 : IVec S_ 1 := andi main_v5 main_v9
  main_v10
-- ==== Kernel.lean ====
abbrev S4096x2048 : Shape := ⟨2, ![4096, 2048]⟩
abbrev S8x2048x64 : Shape := ⟨3, ![8, 2048, 64]⟩
abbrev S8x64x4096 : Shape := ⟨3, ![8, 64, 4096]⟩
abbrev S4096 : Shape := ⟨1, ![4096]⟩
abbrev S4096x1 : Shape := ⟨2, ![4096, 1]⟩
abbrev S4096x4096 : Shape := ⟨2, ![4096, 4096]⟩
abbrev S256x2048 : Shape := ⟨2, ![256, 2048]⟩
abbrev S256x1 : Shape := ⟨2, ![256, 1]⟩
abbrev S256x4096 : Shape := ⟨2, ![256, 4096]⟩
abbrev S1 : Shape := ⟨1, ![1]⟩
abbrev S1x2048x64 : Shape := ⟨3, ![1, 2048, 64]⟩
abbrev S2048x64 : Shape := ⟨2, ![2048, 64]⟩
abbrev S256x64 : Shape := ⟨2, ![256, 64]⟩
abbrev S1x64x4096 : Shape := ⟨3, ![1, 64, 4096]⟩
abbrev S64x4096 : Shape := ⟨2, ![64, 4096]⟩

abbrev nBuf : Space → Nat
  | .hbm => 5
  | .vmem => 10
  | .smem => 1
  | _ => 0

abbrev bufTy : (tb : Table) → Fin (tcTables nBuf tb) → BufTy
  | .hbm, ⟨0, _⟩ => ⟨S4096x2048, .f32⟩
  | .hbm, ⟨1, _⟩ => ⟨S8x2048x64, .f32⟩
  | .hbm, ⟨2, _⟩ => ⟨S8x64x4096, .f32⟩
  | .hbm, ⟨3, _⟩ => ⟨S4096x1, .i32⟩
  | .hbm, ⟨4, _⟩ => ⟨S4096x4096, .f32⟩
  | .local _ .vmem, ⟨0, _⟩ => ⟨S256x2048, .f32⟩
  | .local _ .vmem, ⟨1, _⟩ => ⟨S256x2048, .f32⟩
  | .local _ .vmem, ⟨2, _⟩ => ⟨S256x1, .i32⟩
  | .local _ .vmem, ⟨3, _⟩ => ⟨S256x1, .i32⟩
  | .local _ .vmem, ⟨4, _⟩ => ⟨S8x2048x64, .f32⟩
  | .local _ .vmem, ⟨5, _⟩ => ⟨S8x64x4096, .f32⟩
  | .local _ .vmem, ⟨6, _⟩ => ⟨S256x4096, .f32⟩
  | .local _ .vmem, ⟨7, _⟩ => ⟨S256x4096, .f32⟩
  | .local _ .vmem, ⟨8, _⟩ => ⟨S8x2048x64, .bf16⟩
  | .local _ .vmem, ⟨9, _⟩ => ⟨S8x64x4096, .bf16⟩
  | .local _ .smem, ⟨0, _⟩ => ⟨S4096, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c256_i32 : BitVec 32 := 256#32
  let v3 : BitVec 32 := Scalar.muli arg0 c256_i32
  let v4 : Index := Scalar.indexCast v3
  ![v4.toNat]
def k0_off2 (i : grid0.Coords) : Fin 1 → Nat :=
  let arg0 : BitVec 32 := BitVec.ofNat 32 (i 0).val
  let c256_i32_1 : BitVec 32 := 256#32
  let v6 : BitVec 32 := Scalar.muli arg0 c256_i32_1
  let c256_i32_2 : BitVec 32 := 256#32
  let v7 : BitVec 32 := Scalar.addi v6 c256_i32_2
  let c1_i32 : BitVec 32 := 1#32
  let v8 : BitVec 32 := Scalar.subi v7 c1_i32
  let v9 : Index := Scalar.indexCast v8
  ![v9.toNat]
def k0_off3 (v5 : BitVec 32) : Fin 3 → Nat :=
  let v19 : Index := Scalar.indexCast v5
  let c0_6 : Index := 0#32
  let c0_7 : Index := 0#32
  ![v19.toNat, 0, 0]
def k0_cond2 (v5 : BitVec 32) (v10 : BitVec 32) : BitVec 1 :=
  let v13 : BitVec 1 := Scalar.cmpi .eq v5 v10
  let v14 : BitVec 32 := Scalar.extui v13
  let c0_i32_4 : BitVec 32 := 0#32
  let v15 : BitVec 1 := Scalar.cmpi .ne v14 c0_i32_4
  v15

def k0_off4 (v5 : BitVec 32) : Fin 3 → Nat :=
  let v24 : Index := Scalar.indexCast v5
  let c0_8 : Index := 0#32
  let c0_9 : Index := 0#32
  ![v24.toNat, 0, 0]
@[reducible] def k0_t1_loop (v5 : BitVec 32) (v10 : BitVec 32) : Scf.Loop 32 :=
  let c1_i32_8 : BitVec 32 := 1#32
  let v21 : BitVec 32 := Scalar.addi v10 c1_i32_8
  let v23 : BitVec 32 := Scalar.subi v21 v5
  let c1_i32_9 : BitVec 32 := 1#32
  let v25 : BitVec 32 := Scalar.divsi v23 c1_i32_9
  let v26 : BitVec 32 := Scalar.muli v25 c1_i32_9
  let v27 : BitVec 32 := Scalar.addi v5 v26
  let c1_i32_10 : BitVec 32 := 1#32
  ⟨v5, v27, c1_i32_10⟩
def k0_cond3 (v5 : BitVec 32) (v10 : BitVec 32) : BitVec 1 :=
  let v16 : BitVec 1 := Scalar.cmpi .ne v5 v10
  let v17 : BitVec 32 := Scalar.extui v16
  let c0_i32_5 : BitVec 32 := 0#32
  let v18 : BitVec 1 := Scalar.cmpi .ne v17 c0_i32_5
  v18

def k0_off5 (v5 : BitVec 32) (v10 : BitVec 32) (k0_t1 : Fin (k0_t1_loop v5 v10).trips) : Fin 3 → Nat :=
  let c1_i32_10 : BitVec 32 := 1#32
  let arg9 : BitVec 32 := Scf.iv v5 c1_i32_10 k0_t1
  let v31 : Index := Scalar.indexCast arg9
  let c0_14 : Index := 0#32
  let c0_15 : Index := 0#32
  ![v31.toNat, 0, 0]
def k0_off6 (v5 : BitVec 32) (v10 : BitVec 32) (k0_t1 : Fin (k0_t1_loop v5 v10).trips) : Fin 3 → Nat :=
  let c1_i32_10 : BitVec 32 := 1#32
  let arg9 : BitVec 32 := Scf.iv v5 c1_i32_10 k0_t1
  let v42 : Index := Scalar.indexCast arg9
  let c0_17 : Index := 0#32
  let c0_18 : Index := 0#32
  ![v42.toNat, 0, 0]
@[reducible] def k0_t2_loop (v5 : BitVec 32) (v10 : BitVec 32) : Scf.Loop 32 :=
  let c1_i32_8 : BitVec 32 := 1#32
  let v21 : BitVec 32 := Scalar.addi v10 c1_i32_8
  let v23 : BitVec 32 := Scalar.subi v21 v5
  let c1_i32_9 : BitVec 32 := 1#32
  let v25 : BitVec 32 := Scalar.divsi v23 c1_i32_9
  let v26 : BitVec 32 := Scalar.muli v25 c1_i32_9
  let v27 : BitVec 32 := Scalar.addi v5 v26
  let v24 : BitVec 32 := Scalar.addi v5 v23
  let c1_i32_11 : BitVec 32 := 1#32
  ⟨v27, v24, c1_i32_11⟩
def k0_off7 (v5 : BitVec 32) (v10 : BitVec 32) (k0_t2 : Fin (k0_t2_loop v5 v10).trips) : Fin 3 → Nat :=
  let c1_i32_8 : BitVec 32 := 1#32
  let v21 : BitVec 32 := Scalar.addi v10 c1_i32_8
  let v23 : BitVec 32 := Scalar.subi v21 v5
  let c1_i32_9 : BitVec 32 := 1#32
  let v25 : BitVec 32 := Scalar.divsi v23 c1_i32_9
  let v26 : BitVec 32 := Scalar.muli v25 c1_i32_9
  let v27 : BitVec 32 := Scalar.addi v5 v26
  let c1_i32_11 : BitVec 32 := 1#32
  let arg9 : BitVec 32 := Scf.iv v27 c1_i32_11 k0_t2
  let v31 : Index := Scalar.indexCast arg9
  let c0_14 : Index := 0#32
  let c0_15 : Index := 0#32
  ![v31.toNat, 0, 0]
def k0_off8 (v5 : BitVec 32) (v10 : BitVec 32) (k0_t2 : Fin (k0_t2_loop v5 v10).trips) : Fin 3 → Nat :=
  let c1_i32_8 : BitVec 32 := 1#32
  let v21 : BitVec 32 := Scalar.addi v10 c1_i32_8
  let v23 : BitVec 32 := Scalar.subi v21 v5
  let c1_i32_9 : BitVec 32 := 1#32
  let v25 : BitVec 32 := Scalar.divsi v23 c1_i32_9
  let v26 : BitVec 32 := Scalar.muli v25 c1_i32_9
  let v27 : BitVec 32 := Scalar.addi v5 v26
  let c1_i32_11 : BitVec 32 := 1#32
  let arg9 : BitVec 32 := Scf.iv v27 c1_i32_11 k0_t2
  let v42 : Index := Scalar.indexCast arg9
  let c0_17 : Index := 0#32
  let c0_18 : Index := 0#32
  ![v42.toNat, 0, 0]

def k0_chk1 (v5 : BitVec 32) (v10 : BitVec 32) : Prop :=
  (∀ (k0_h2 : k0_cond2 v5 v10 = 1#1), ∀ a, (k0_off3 v5) a + S1x2048x64.size a ≤ S8x2048x64.size a) ∧
  (∀ (k0_h2 : k0_cond2 v5 v10 = 1#1), ∀ a, (k0_off4 v5) a + S1x64x4096.size a ≤ S8x64x4096.size a) ∧
  (∀ (k0_h3 : k0_cond3 v5 v10 = 1#1), (k0_t1_loop v5 v10).OK) ∧
  (∀ k0_t1 : Fin (k0_t1_loop v5 v10).trips, ∀ (k0_h3 : k0_cond3 v5 v10 = 1#1), ∀ a, (k0_off5 v5 v10 k0_t1) a + S1x2048x64.size a ≤ S8x2048x64.size a) ∧
  (∀ k0_t1 : Fin (k0_t1_loop v5 v10).trips, ∀ (k0_h3 : k0_cond3 v5 v10 = 1#1), ∀ a, (k0_off6 v5 v10 k0_t1) a + S1x64x4096.size a ≤ S8x64x4096.size a) ∧
  (∀ (k0_h3 : k0_cond3 v5 v10 = 1#1), (k0_t2_loop v5 v10).OK) ∧
  (∀ k0_t2 : Fin (k0_t2_loop v5 v10).trips, ∀ (k0_h3 : k0_cond3 v5 v10 = 1#1), ∀ a, (k0_off7 v5 v10 k0_t2) a + S1x2048x64.size a ≤ S8x2048x64.size a) ∧
  (∀ k0_t2 : Fin (k0_t2_loop v5 v10).trips, ∀ (k0_h3 : k0_cond3 v5 v10 = 1#1), ∀ a, (k0_off8 v5 v10 k0_t2) a + S1x64x4096.size a ≤ S8x64x4096.size a)
theorem k0_off3_inb : ∀ (v5 : BitVec 32) (v10 : BitVec 32) (k0_hw1 : k0_chk1 v5 v10), ∀ (k0_h2 : k0_cond2 v5 v10 = 1#1), ∀ a, (k0_off3 v5) a + S1x2048x64.size a ≤ S8x2048x64.size a := fun v5 v10 k0_hw1 k0_h2 => k0_hw1.1 k0_h2
theorem k0_off4_inb : ∀ (v5 : BitVec 32) (v10 : BitVec 32) (k0_hw1 : k0_chk1 v5 v10), ∀ (k0_h2 : k0_cond2 v5 v10 = 1#1), ∀ a, (k0_off4 v5) a + S1x64x4096.size a ≤ S8x64x4096.size a := fun v5 v10 k0_hw1 k0_h2 => k0_hw1.2.1 k0_h2
theorem k0_t1_ok : ∀ (v5 : BitVec 32) (v10 : BitVec 32) (k0_hw1 : k0_chk1 v5 v10), ∀ (k0_h3 : k0_cond3 v5 v10 = 1#1), (k0_t1_loop v5 v10).OK := fun v5 v10 k0_hw1 k0_h3 => k0_hw1.2.2.1 k0_h3
theorem k0_off5_inb : ∀ (v5 : BitVec 32) (v10 : BitVec 32) (k0_hw1 : k0_chk1 v5 v10) (k0_t1 : Fin (k0_t1_loop v5 v10).trips), ∀ (k0_h3 : k0_cond3 v5 v10 = 1#1), ∀ a, (k0_off5 v5 v10 k0_t1) a + S1x2048x64.size a ≤ S8x2048x64.size a := fun v5 v10 k0_hw1 k0_t1 k0_h3 => k0_hw1.2.2.2.1 k0_t1 k0_h3
theorem k0_off6_inb : ∀ (v5 : BitVec 32) (v10 : BitVec 32) (k0_hw1 : k0_chk1 v5 v10) (k0_t1 : Fin (k0_t1_loop v5 v10).trips), ∀ (k0_h3 : k0_cond3 v5 v10 = 1#1), ∀ a, (k0_off6 v5 v10 k0_t1) a + S1x64x4096.size a ≤ S8x64x4096.size a := fun v5 v10 k0_hw1 k0_t1 k0_h3 => k0_hw1.2.2.2.2.1 k0_t1 k0_h3
theorem k0_t2_ok : ∀ (v5 : BitVec 32) (v10 : BitVec 32) (k0_hw1 : k0_chk1 v5 v10), ∀ (k0_h3 : k0_cond3 v5 v10 = 1#1), (k0_t2_loop v5 v10).OK := fun v5 v10 k0_hw1 k0_h3 => k0_hw1.2.2.2.2.2.1 k0_h3
theorem k0_off7_inb : ∀ (v5 : BitVec 32) (v10 : BitVec 32) (k0_hw1 : k0_chk1 v5 v10) (k0_t2 : Fin (k0_t2_loop v5 v10).trips), ∀ (k0_h3 : k0_cond3 v5 v10 = 1#1), ∀ a, (k0_off7 v5 v10 k0_t2) a + S1x2048x64.size a ≤ S8x2048x64.size a := fun v5 v10 k0_hw1 k0_t2 k0_h3 => k0_hw1.2.2.2.2.2.2.1 k0_t2 k0_h3
theorem k0_off8_inb : ∀ (v5 : BitVec 32) (v10 : BitVec 32) (k0_hw1 : k0_chk1 v5 v10) (k0_t2 : Fin (k0_t2_loop v5 v10).trips), ∀ (k0_h3 : k0_cond3 v5 v10 = 1#1), ∀ a, (k0_off8 v5 v10 k0_t2) a + S1x64x4096.size a ≤ S8x64x4096.size a := fun v5 v10 k0_hw1 k0_t2 k0_h3 => k0_hw1.2.2.2.2.2.2.2 k0_t2 k0_h3

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x2048 : Shape := ⟨2, ![4096, 2048]⟩
abbrev S8x2048x64 : Shape := ⟨3, ![8, 2048, 64]⟩
abbrev S8x64x4096 : Shape := ⟨3, ![8, 64, 4096]⟩
abbrev S4096 : Shape := ⟨1, ![4096]⟩
abbrev S_ : Shape := ⟨0, ![]⟩
abbrev S4096x4096 : Shape := ⟨2, ![4096, 4096]⟩
abbrev S4096x1 : Shape := ⟨2, ![4096, 1]⟩
abbrev S1x2048x64 : Shape := ⟨3, ![1, 2048, 64]⟩
abbrev S2048x64 : Shape := ⟨2, ![2048, 64]⟩
abbrev S4096x64 : Shape := ⟨2, ![4096, 64]⟩
abbrev S1x64x4096 : Shape := ⟨3, ![1, 64, 4096]⟩
abbrev S64x4096 : Shape := ⟨2, ![64, 4096]⟩

abbrev nBuf : Space → Nat
  | .hbm => 134
  | .vmem => 0
  | .smem => 0
  | _ => 0

abbrev hbmTy0_0 (i : Nat) : BufTy := match i % 128 with
  | 0 => ⟨S4096x2048, .f32⟩
  | 1 => ⟨S8x2048x64, .f32⟩
  | 2 => ⟨S8x64x4096, .f32⟩
  | 3 => ⟨S4096, .i32⟩
  | 4 => ⟨S_, .f32⟩
  | 5 => ⟨S4096x4096, .f32⟩
  | 6 => ⟨S_, .i32⟩
  | 7 => ⟨S4096, .i32⟩
  | 8 => ⟨S4096, .i1⟩
  | 9 => ⟨S4096, .f32⟩
  | 10 => ⟨S4096x1, .f32⟩
  | 11 => ⟨S4096x2048, .f32⟩
  | 12 => ⟨S4096x2048, .f32⟩
  | 13 => ⟨S1x2048x64, .f32⟩
  | 14 => ⟨S2048x64, .f32⟩
  | 15 => ⟨S4096x64, .f32⟩
  | 16 => ⟨S1x64x4096, .f32⟩
  | 17 => ⟨S64x4096, .f32⟩
  | 18 => ⟨S4096x4096, .f32⟩
  | 19 => ⟨S4096x4096, .f32⟩
  | 20 => ⟨S4096x4096, .f32⟩
  | 21 => ⟨S4096x4096, .f32⟩
  | 22 => ⟨S_, .i32⟩
  | 23 => ⟨S4096, .i32⟩
  | 24 => ⟨S4096, .i1⟩
  | 25 => ⟨S4096, .f32⟩
  | 26 => ⟨S4096x1, .f32⟩
  | 27 => ⟨S4096x2048, .f32⟩
  | 28 => ⟨S4096x2048, .f32⟩
  | 29 => ⟨S1x2048x64, .f32⟩
  | 30 => ⟨S2048x64, .f32⟩
  | 31 => ⟨S4096x64, .f32⟩
  | 32 => ⟨S1x64x4096, .f32⟩
  | 33 => ⟨S64x4096, .f32⟩
  | 34 => ⟨S4096x4096, .f32⟩
  | 35 => ⟨S4096x4096, .f32⟩
  | 36 => ⟨S4096x4096, .f32⟩
  | 37 => ⟨S4096x4096, .f32⟩
  | 38 => ⟨S_, .i32⟩
  | 39 => ⟨S4096, .i32⟩
  | 40 => ⟨S4096, .i1⟩
  | 41 => ⟨S4096, .f32⟩
  | 42 => ⟨S4096x1, .f32⟩
  | 43 => ⟨S4096x2048, .f32⟩
  | 44 => ⟨S4096x2048, .f32⟩
  | 45 => ⟨S1x2048x64, .f32⟩
  | 46 => ⟨S2048x64, .f32⟩
  | 47 => ⟨S4096x64, .f32⟩
  | 48 => ⟨S1x64x4096, .f32⟩
  | 49 => ⟨S64x4096, .f32⟩
  | 50 => ⟨S4096x4096, .f32⟩
  | 51 => ⟨S4096x4096, .f32⟩
  | 52 => ⟨S4096x4096, .f32⟩
  | 53 => ⟨S4096x4096, .f32⟩
  | 54 => ⟨S_, .i32⟩
  | 55 => ⟨S4096, .i32⟩
  | 56 => ⟨S4096, .i1⟩
  | 57 => ⟨S4096, .f32⟩
  | 58 => ⟨S4096x1, .f32⟩
  | 59 => ⟨S4096x2048, .f32⟩
  | 60 => ⟨S4096x2048, .f32⟩
  | 61 => ⟨S1x2048x64, .f32⟩
  | 62 => ⟨S2048x64, .f32⟩
  | 63 => ⟨S4096x64, .f32⟩
  | 64 => ⟨S1x64x4096, .f32⟩
  | 65 => ⟨S64x4096, .f32⟩
  | 66 => ⟨S4096x4096, .f32⟩
  | 67 => ⟨S4096x4096, .f32⟩
  | 68 => ⟨S4096x4096, .f32⟩
  | 69 => ⟨S4096x4096, .f32⟩
  | 70 => ⟨S_, .i32⟩
  | 71 => ⟨S4096, .i32⟩
  | 72 => ⟨S4096, .i1⟩
  | 73 => ⟨S4096, .f32⟩
  | 74 => ⟨S4096x1, .f32⟩
  | 75 => ⟨S4096x2048, .f32⟩
  | 76 => ⟨S4096x2048, .f32⟩
  | 77 => ⟨S1x2048x64, .f32⟩
  | 78 => ⟨S2048x64, .f32⟩
  | 79 => ⟨S4096x64, .f32⟩
  | 80 => ⟨S1x64x4096, .f32⟩
  | 81 => ⟨S64x4096, .f32⟩
  | 82 => ⟨S4096x4096, .f32⟩
  | 83 => ⟨S4096x4096, .f32⟩
  | 84 => ⟨S4096x4096, .f32⟩
  | 85 => ⟨S4096x4096, .f32⟩
  | 86 => ⟨S_, .i32⟩
  | 87 => ⟨S4096, .i32⟩
  | 88 => ⟨S4096, .i1⟩
  | 89 => ⟨S4096, .f32⟩
  | 90 => ⟨S4096x1, .f32⟩
  | 91 => ⟨S4096x2048, .f32⟩
  | 92 => ⟨S4096x2048, .f32⟩
  | 93 => ⟨S1x2048x64, .f32⟩
  | 94 => ⟨S2048x64, .f32⟩
  | 95 => ⟨S4096x64, .f32⟩
  | 96 => ⟨S1x64x4096, .f32⟩
  | 97 => ⟨S64x4096, .f32⟩
  | 98 => ⟨S4096x4096, .f32⟩
  | 99 => ⟨S4096x4096, .f32⟩
  | 100 => ⟨S4096x4096, .f32⟩
  | 101 => ⟨S4096x4096, .f32⟩
  | 102 => ⟨S_, .i32⟩
  | 103 => ⟨S4096, .i32⟩
  | 104 => ⟨S4096, .i1⟩
  | 105 => ⟨S4096, .f32⟩
  | 106 => ⟨S4096x1, .f32⟩
  | 107 => ⟨S4096x2048, .f32⟩
  | 108 => ⟨S4096x2048, .f32⟩
  | 109 => ⟨S1x2048x64, .f32⟩
  | 110 => ⟨S2048x64, .f32⟩
  | 111 => ⟨S4096x64, .f32⟩
  | 112 => ⟨S1x64x4096, .f32⟩
  | 113 => ⟨S64x4096, .f32⟩
  | 114 => ⟨S4096x4096, .f32⟩
  | 115 => ⟨S4096x4096, .f32⟩
  | 116 => ⟨S4096x4096, .f32⟩
  | 117 => ⟨S4096x4096, .f32⟩
  | 118 => ⟨S_, .i32⟩
  | 119 => ⟨S4096, .i32⟩
  | 120 => ⟨S4096, .i1⟩
  | 121 => ⟨S4096, .f32⟩
  | 122 => ⟨S4096x1, .f32⟩
  | 123 => ⟨S4096x2048, .f32⟩
  | 124 => ⟨S4096x2048, .f32⟩
  | 125 => ⟨S1x2048x64, .f32⟩
  | 126 => ⟨S2048x64, .f32⟩
  | 127 => ⟨S4096x64, .f32⟩
  | _ => ⟨S4096x2048, .f32⟩

abbrev hbmTy0_1 (i : Nat) : BufTy := match i % 128 with
  | 0 => ⟨S1x64x4096, .f32⟩
  | 1 => ⟨S64x4096, .f32⟩
  | 2 => ⟨S4096x4096, .f32⟩
  | 3 => ⟨S4096x4096, .f32⟩
  | 4 => ⟨S4096x4096, .f32⟩
  | 5 => ⟨S4096x4096, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_2 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_c_3 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_c_4 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_c_5 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_c_6 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩

abbrev nD : Nat := 1
abbrev τ : Topo := Topo.v7x

variable {F : FTy → Type} [FloatOps F]
-- ==== Proof.Slots.lean ====
/-
  What the precondition says of the slot table: every word is one of 0, …, 7 and the words do not fall from one row to
  the next; and what follows for a pair of such words, first no larger than second: the body's check holds of them, its
  loop makes one trip per slot between them, and trip `k` works at slot `first + k`.
-/
module

public import proofs.«01_k».proof.Proof.Gen.Kernel
public import proofs.«01_k».proof.Proof.Gen.KernelIdeal
public import proofs.«01_k».proof.Proof.Gen.Pre_sorted_slots
public import Idealize.ShloMosaic.Lib.ReduceAll
public import Idealize.ShloMosaic.Lib.Pipeline.Value
public import Idealize.ShloMosaic.Lib.ValueIdx

@[expose] public section

namespace Cert.Proof.Slots

open Idealize.ShloMosaic Idealize.ShloMosaic.ValueIdx

/-- A table of 4096 words, each below eight, that never fall. -/
def Sorted (T : Cert.Pre_sorted_slots.S4096.Idx → BitVec 32) : Prop :=
  (∀ j, (T j).toNat < 8) ∧ ∀ a b : Fin 4096, a ≤ b → (T (ix1 a)).toNat ≤ (T (ix1 b)).toNat

/-- A word between 0 and 7 as a signed number is so as an unsigned one, and is the same number. -/
theorem toNat_of_range {w : BitVec 32} (h0 : 0 ≤ w.toInt) (h8 : w.toInt < 8) : w.toNat < 8 ∧ (w.toNat : ℤ) = w.toInt := by
  have h := w.isLt
  have e := BitVec.toInt_eq_toNat_cond w
  split at e <;> omega

/-- The precondition, read: the table is sorted. -/
theorem sorted_of_pre {F : FTy → Type} [FloatOps F] (x0 : FVec F Cert.Pre_sorted_slots.S4096x2048 .f32) (x1 : FVec F Cert.Pre_sorted_slots.S8x2048x64 .f32)
    (x2 : FVec F Cert.Pre_sorted_slots.S8x64x4096 .f32) (T : IVec Cert.Pre_sorted_slots.S4096 32)
    (h : Cert.Pre_sorted_slots.fn x0 x1 x2 T = fun _ => 1#1) : Sorted T := by
  have h0 := congrFun h (fun a => a.elim0)
  obtain ⟨ha, hb⟩ := IntOp.andi_eq_one.mp h0
  have hr : ∀ j, (T j).toNat < 8 ∧ ((T j).toNat : ℤ) = (T j).toInt := by
    intro j
    obtain ⟨hg, hl⟩ := IntOp.andi_eq_one.mp (Host.reduce_andi_all _ _ _ _ _ ha j)
    exact toNat_of_range (IntOp.cmpi_sge.mp hg) (IntOp.cmpi_slt.mp hl)
  have hs : ∀ n (hn : n + 1 < 4096), (T (ix1 ⟨n, by omega⟩)).toNat ≤ (T (ix1 ⟨n + 1, hn⟩)).toNat := by
    intro n hn
    have hk := IntOp.cmpi_sle.mp (Host.reduce_andi_all _ _ _ _ _ hb (ix1 (n := 4095) ⟨n, by omega⟩))
    dsimp only at hk
    rw [extractStridedSlice_apply _ _ _ (ix1 (n := 4095) ⟨n, by omega⟩) (ix1 (n := 4096) ⟨n, by omega⟩)
        (by intro a; obtain rfl := Subsingleton.elim a 0; exact (Nat.zero_add n).symm),
      extractStridedSlice_apply _ _ _ (ix1 (n := 4095) ⟨n, by omega⟩) (ix1 (n := 4096) ⟨n + 1, hn⟩)
        (by intro a; obtain rfl := Subsingleton.elim a 0; exact Nat.add_comm n 1)] at hk
    have e1 := (hr (ix1 ⟨n, by omega⟩)).2
    have e2 := (hr (ix1 ⟨n + 1, hn⟩)).2
    omega
  refine ⟨fun j => (hr j).1, ?_⟩
  rintro ⟨a, ha⟩ ⟨b, hb⟩ hab
  replace hab : a ≤ b := hab
  induction b, hab using Nat.le_induction with
  | base => exact le_rfl
  | succ n hn ih => exact (ih (by omega)).trans (hs n hb)

/-- A small word is the literal of its value. -/
theorem word_eq {w : BitVec 32} {a : ℕ} (h : w.toNat = a) : w = BitVec.ofNat 32 a := by
  subst h; simp

/-- The body's check of every ordered pair of slots, over the kernel's own bits; -/
theorem chk_bits : ∀ b : Fin 8, ∀ a : Fin 8, a ≤ b → Cert.Kernel.k0_chk1 (BitVec.ofNat 32 a.val) (BitVec.ofNat 32 b.val) := by
  decide +kernel
/-- and over ideal values. -/
theorem chk_ideal : ∀ b : Fin 8, ∀ a : Fin 8, a ≤ b → Cert.KernelIdeal.k0_chk1 (BitVec.ofNat 32 a.val) (BitVec.ofNat 32 b.val) := by
  decide +kernel

/-- The loop makes one trip per slot from the first to the last, -/
theorem trips_eq : ∀ b : Fin 8, ∀ a : Fin 8, a ≤ b →
    (Cert.KernelIdeal.k0_t1_loop (BitVec.ofNat 32 a.val) (BitVec.ofNat 32 b.val)).trips = b.val + 1 - a.val := by
  decide +kernel

end Cert.Proof.Slots
-- ==== Proof.BitFrame.lean ====
/-
  The printed program's frame over any float values: a sorted slot table meets the body's check at every grid point, so
  the program runs to its end and leaves its arguments as they were.
-/
module

public import proofs.«01_k».proof.Proof.BitRun
public import proofs.«01_k».proof.Proof.Slots

@[expose] public section

noncomputable section

namespace Cert.Proof.Bit

open Cert.Kernel Cert.Kernel.Gen
open Idealize.ShloMosaic Idealize.ShloMosaic.TcCoe Idealize.ShloMosaic.ValueIdx Idealize.SL.Sem
open Cert.Proof.Slots

variable {F : FTy → Type} [BitOps F]

/-! ## The two words a grid point reads -/

/-- A point's coordinate is its number, among sixteen. -/
theorem coord_eq (t : Fin grid0.N) : (grid0.coords t 0).val = t.val ∧ t.val < 16 := by
  revert t; decide
/-- The first row's position in the table, -/
theorem off1_eq (t : Fin grid0.N) : k0_off1 (grid0.coords t) = ![256 * t.val] := by
  revert t; decide +kernel
/-- and the last row's. -/
theorem off2_eq (t : Fin grid0.N) : k0_off2 (grid0.coords t) = ![256 * t.val + 255] := by
  revert t; decide +kernel

/-- Row `r` of block `t`, among all the rows. -/
abbrev rowIx (t : Fin grid0.N) (r : Fin 256) : Fin 4096 := ⟨256 * t.val + r.val, by have := (coord_eq t).2; omega⟩

/-- The point reads the slot of its block's first row; -/
theorem slotLo_eq (t : Fin grid0.N) (T : S4096.Idx → Elt F .i32) : slotLo (grid0.coords t) T = T (ix1 (rowIx t 0)) := by
  refine congrArg T (funext fun a => Fin.ext ?_)
  obtain rfl : a = (0 : Fin 1) := Subsingleton.elim (α := Fin 1) _ _
  show k0_off1 (grid0.coords t) 0 + 1 * 0 = _
  rw [off1_eq]; rfl
/-- and of its last. -/
theorem slotHi_eq (t : Fin grid0.N) (T : S4096.Idx → Elt F .i32) : slotHi (grid0.coords t) T = T (ix1 (rowIx t 255)) := by
  refine congrArg T (funext fun a => Fin.ext ?_)
  obtain rfl : a = (0 : Fin 1) := Subsingleton.elim (α := Fin 1) _ _
  show k0_off2 (grid0.coords t) 0 + 1 * 0 = _
  rw [off2_eq]; rfl

/-- Two words of a sorted table, the first no larger, meet the body's check. -/
theorem chk_of_le {v w : BitVec 32} (hw : w.toNat < 8) (h : v.toNat ≤ w.toNat) : k0_chk1 v w := by
  have := chk_bits ⟨w.toNat, hw⟩ ⟨v.toNat, h.trans_lt hw⟩ h
  rwa [← word_eq (w := v) rfl, ← word_eq (w := w) rfl] at this

variable (m : (ℓ : Loc nD τ sig) → Buf (Elt F) ℓ)

/-- A sorted slot table meets the check at every point. -/
theorem checked_of_sorted (h : Sorted (tbl m)) : Checked m := fun t => by
  rw [slotLo_eq, slotHi_eq]
  exact chk_of_le (h.1 _) (h.2 _ _ (by show 256 * t.val + 0 ≤ 256 * t.val + 255; omega))

/-! ## The arguments at the end -/

/-- The rows are never written, -/
theorem finalA_0 (c : Dev nD) : finalA m c 0 = m ((c : Thread nD τ).loc main_arg0) :=
  ((dats m 0 c).arrAt_in 0 rfl _).trans ((A_eq m c 0).trans (V_of_ne m c main_arg0 (by decide)))
/-- nor the first table, -/
theorem finalA_2 (c : Dev nD) : finalA m c 2 = m ((c : Thread nD τ).loc main_arg1) :=
  ((dats m 0 c).arrAt_in 2 rfl _).trans ((A_eq m c 2).trans (V_of_ne m c main_arg1 (by decide)))
/-- nor the second. -/
theorem finalA_3 (c : Dev nD) : finalA m c 3 = m ((c : Thread nD τ).loc main_arg2) :=
  ((dats m 0 c).arrAt_in 3 rfl _).trans ((A_eq m c 3).trans (V_of_ne m c main_arg2 (by decide)))

/-- From a sorted slot table the program runs to its end: the result is the library's final array of the output window,
    the arguments are unchanged and every counter is zero. -/
theorem run_args (ρ : Dev nD → PrngReg) (h : Sorted (tbl m)) :
    θ_run defs (onTc (τ := τ) (main (F := F))) ⟨m, fun _ => 0, ρ⟩ (fun r =>
      (∀ c : Dev nD, r.2.mem ((c : Thread nD τ).loc main_v1) = finalA m c 4
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun _ h => ⟨fun c => ⟨(h.1 c).1 4, ((h.1 c).1 0).trans (finalA_0 m c), ((h.1 c).1 2).trans (finalA_2 m c),
      ((h.1 c).1 3).trans (finalA_3 m c), by obtain rfl : c = 0 := Subsingleton.elim (α := Fin 1) _ _; exact (h.1 0).2⟩, h.2⟩)
    (run_main m ρ (checked_of_sorted m h))

end Cert.Proof.Bit

end
-- ==== Proof.IdealBody.lean ====
/-
  The kernel body of the printed program over any float values: one grid point's run, with the block it leaves.

  At the first grid point the body copies the two adapter tables, converted, into its two scratch buffers; at every
  point it reads the slot of the block's first row and the slot of its last row, and either multiplies the block once
  (one slot) or accumulates one masked product per slot in between.
-/
module

public import proofs.«01_k».proof.Proof.Gen.KernelIdeal.Loops
public import proofs.«01_k».proof.Proof.Gen.KernelIdeal.Launch
public import Idealize.ShloMosaic.Lib.Tactic
public import Idealize.ShloMosaic.Lib.Pipeline.TableIdle
public import Idealize.ShloMosaic.Lib.VecWindow
public import Idealize.ShloMosaic.Lib.LoopRemainder

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What a grid point computes -/

/-- The slot of the block's first row, as the body reads it from the table. -/
abbrev slotLo (i : grid0.Coords) (T : S4096.Idx → Elt F .i32) : BitVec 32 :=
  (Memref.whole main_arg3).view.readAt (Elt F) (Rect.unit (s := S4096) (k0_off1 i) S1.size (k0_off1_inb i)).toLoadRect T
    (Shape.Idx.first (numel1_S1.symm ▸ Nat.one_pos))
/-- The slot of the block's last row, as the body reads it from the table. -/
abbrev slotHi (i : grid0.Coords) (T : S4096.Idx → Elt F .i32) : BitVec 32 :=
  (Memref.whole main_arg3).view.readAt (Elt F) (Rect.unit (s := S4096) (k0_off2 i) S1.size (k0_off2_inb i)).toLoadRect T
    (Shape.Idx.first (numel1_S1.symm ▸ Nat.one_pos))

/-- The accumulator before trip `k`: the sum of the masked products of the slots met so far. -/
def accum (v5 v10 : BitVec 32) (hw : k0_chk1 v5 v10) (h3 : k0_cond3 v5 v10 = 1#1) (x : Vec F S256x2048 .f32) (s : Vec F S256x1 .i32)
    (A : S8x2048x64.Idx → Elt F .bf16) (B : S8x64x4096.Idx → Elt F .bf16) : ℕ → FVec F S256x4096 .f32
  | 0 => k0_pay6
  | k + 1 =>
    if h : k < (k0_t1_loop v5 v10).trips then
      k0_pay7 v5 v10 x s ⟨k, h⟩ (accum v5 v10 hw h3 x s A B k)
        (VecWindow.window A (k0_off5 v5 v10 ⟨k, h⟩) S1x2048x64.size (k0_off5_inb v5 v10 hw ⟨k, h⟩ h3))
        (VecWindow.window B (k0_off6 v5 v10 ⟨k, h⟩) S1x64x4096.size (k0_off6_inb v5 v10 hw ⟨k, h⟩ h3))
    else accum v5 v10 hw h3 x s A B k

/-- The block a grid point leaves, from its rows, their slots and the two converted tables: one product when the block
    holds one slot, the accumulated masked products otherwise. -/
def blockOut (v5 v10 : BitVec 32) (x : Vec F S256x2048 .f32) (s : Vec F S256x1 .i32)
    (A : S8x2048x64.Idx → Elt F .bf16) (B : S8x64x4096.Idx → Elt F .bf16) : FVec F S256x4096 .f32 :=
  if hw : k0_chk1 v5 v10 then
    if h2 : k0_cond2 v5 v10 = 1#1 then
      k0_pay4 x (VecWindow.window A (k0_off3 v5) S1x2048x64.size (k0_off3_inb v5 v10 hw h2))
        (VecWindow.window B (k0_off4 v5) S1x64x4096.size (k0_off4_inb v5 v10 hw h2))
    else if h3 : k0_cond3 v5 v10 = 1#1 then accum v5 v10 hw h3 x s A B (k0_t1_loop v5 v10).trips
    else k0_pay6
  else k0_pay6

/-- Whether the grid point is the first, as the body computes it. -/
abbrev isFirst (i : grid0.Coords) : BitVec 1 :=
  Scalar.cmpi .ne (Scalar.extui (Scalar.cmpi .eq (BitVec.ofNat 32 (i 0).val) 0#32) : BitVec 32) 0#32

/-- The body's two branches exclude one another and one is always taken. -/
theorem cond3_iff (v5 v10 : BitVec 32) : k0_cond3 v5 v10 = 1#1 ↔ ¬ k0_cond2 v5 v10 = 1#1 := by
  unfold k0_cond3 k0_cond2
  exact (Scalar.guard_iff _).trans (IntOp.cmpi_ne.trans (not_congr ((Scalar.guard_iff _).trans IntOp.cmpi_eq)).symm)

/-- The block of a point whose rows share one slot: one product. -/
theorem blockOut_one {v5 v10 : BitVec 32} (hw : k0_chk1 v5 v10) (h2 : k0_cond2 v5 v10 = 1#1) (x : Vec F S256x2048 .f32) (s : Vec F S256x1 .i32)
    (A : S8x2048x64.Idx → Elt F .bf16) (B : S8x64x4096.Idx → Elt F .bf16) :
    blockOut v5 v10 x s A B = k0_pay4 x (VecWindow.window A (k0_off3 v5) S1x2048x64.size (k0_off3_inb v5 v10 hw h2))
        (VecWindow.window B (k0_off4 v5) S1x64x4096.size (k0_off4_inb v5 v10 hw h2)) := by
  unfold blockOut; rw [dif_pos hw, dif_pos h2]

/-- The block of a point whose rows hold several slots: the accumulated masked products. -/
theorem blockOut_many {v5 v10 : BitVec 32} (hw : k0_chk1 v5 v10) (h3 : k0_cond3 v5 v10 = 1#1) (x : Vec F S256x2048 .f32) (s : Vec F S256x1 .i32)
    (A : S8x2048x64.Idx → Elt F .bf16) (B : S8x64x4096.Idx → Elt F .bf16) :
    blockOut v5 v10 x s A B = accum v5 v10 hw h3 x s A B (k0_t1_loop v5 v10).trips := by
  unfold blockOut; rw [dif_pos hw, dif_neg ((cond3_iff _ _).mp h3), dif_pos h3]

/-- A whole store into a table's buffer leaves what was stored. -/
theorem stored0 (M : Memref sig .tc .vmem S8x2048x64 .bf16) (f : M.view.ty.Contents (Elt F)) (w : S8x2048x64.Idx → Elt F .bf16) :
    M.view.read (Elt F) (M.view.writes (Elt F) f [⟨Rect.unit ![0, 0, 0] S8x2048x64.size inb_S8x2048x64_S8x2048x64_0_0_0, w⟩]) = w :=
  View.read_writes_full M.view f inb_S8x2048x64_S8x2048x64_0_0_0 w []
/-- The same of the other table's. -/
theorem stored1 (M : Memref sig .tc .vmem S8x64x4096 .bf16) (f : M.view.ty.Contents (Elt F)) (w : S8x64x4096.Idx → Elt F .bf16) :
    M.view.read (Elt F) (M.view.writes (Elt F) f [⟨Rect.unit ![0, 0, 0] S8x64x4096.size inb_S8x64x4096_S8x64x4096_0_0_0, w⟩]) = w :=
  View.read_writes_full M.view f inb_S8x64x4096_S8x64x4096_0_0_0 w []
/-- What a load of one slot of a table's buffer reads. -/
theorem slab0 (M : Memref sig .tc .vmem S8x2048x64 .bf16) (f : M.view.ty.Contents (Elt F)) (w : S8x2048x64.Idx → Elt F .bf16) (h : M.view.read (Elt F) f = w)
    (off : Fin 3 → ℕ) (inb : ∀ a, off a + S1x2048x64.size a ≤ S8x2048x64.size a) :
    M.view.readAt (Elt F) (Rect.unit (s := S8x2048x64) off S1x2048x64.size inb).toLoadRect f = VecWindow.window w off S1x2048x64.size inb := by
  subst h; exact View.readAt_unit M.view f inb rfl inb
/-- The same of the other table's. -/
theorem slab1 (M : Memref sig .tc .vmem S8x64x4096 .bf16) (f : M.view.ty.Contents (Elt F)) (w : S8x64x4096.Idx → Elt F .bf16) (h : M.view.read (Elt F) f = w)
    (off : Fin 3 → ℕ) (inb : ∀ a, off a + S1x64x4096.size a ≤ S8x64x4096.size a) :
    M.view.readAt (Elt F) (Rect.unit (s := S8x64x4096) off S1x64x4096.size inb).toLoadRect f = VecWindow.window w off S1x64x4096.size inb := by
  subst h; exact View.readAt_unit M.view f inb rfl inb

/-! ## The loops -/

/-- One trip of the accumulation adds the slot's masked product. -/
theorem trip_eq (𝒱 : Variants) (c : Dev nD) (bd : Option 𝒱.V) (i : grid0.Coords) (arg1 : Memref sig .tc .smem S4096 .i32) (harg1 : arg1.IsWhole) (arg2 : Memref sig .tc .vmem S256x2048 .f32) (harg2 : arg2.IsWhole) (arg3 : Memref sig .tc .vmem S256x1 .i32) (harg3 : arg3.IsWhole) (arg4 : Memref sig .tc .vmem S8x2048x64 .f32) (harg4 : arg4.IsWhole) (arg5 : Memref sig .tc .vmem S8x64x4096 .f32) (harg5 : arg5.IsWhole) (arg6 : Memref sig .tc .vmem S256x4096 .f32) (harg6 : arg6.IsWhole) (arg7 : Memref sig .tc .vmem S8x2048x64 .bf16) (harg7 : arg7.IsWhole) (arg8 : Memref sig .tc .vmem S8x64x4096 .bf16) (harg8 : arg8.IsWhole) (v5 : Elt F .i32) (v10 : Elt F .i32) (hw : k0_chk1 v5 v10) (x : Vec F S256x2048 .f32) (h3 : k0_cond3 v5 v10 = 1#1) (s : Vec F S256x1 .i32)
    (X7 : BufTy.Contents (Elt F) arg7.view.ty) (X8 : BufTy.Contents (Elt F) arg8.view.ty) (k : Fin (k0_t1_loop v5 v10).trips) (acc : FVec F S256x4096 .f32) :
    tripR_k0_t1 (F := F) 𝒱 c bd i arg1 harg1 arg2 harg2 arg3 harg3 arg4 harg4 arg5 harg5 arg6 harg6 arg7 harg7 arg8 harg8 v5 v10 hw x h3 s X7 X8 k acc
      = k0_pay7 v5 v10 x s k acc
        (VecWindow.window (arg7.view.read (Elt F) X7) (k0_off5 v5 v10 k) S1x2048x64.size (k0_off5_inb v5 v10 hw k h3))
        (VecWindow.window (arg8.view.read (Elt F) X8) (k0_off6 v5 v10 k) S1x64x4096.size (k0_off6_inb v5 v10 hw k h3)) := by
  unfold tripR_k0_t1 trip_k0_t1
  rfl

/-- The loop's carried value is the accumulator. -/
theorem st_eq (𝒱 : Variants) (c : Dev nD) (bd : Option 𝒱.V) (i : grid0.Coords) (arg1 : Memref sig .tc .smem S4096 .i32) (harg1 : arg1.IsWhole) (arg2 : Memref sig .tc .vmem S256x2048 .f32) (harg2 : arg2.IsWhole) (arg3 : Memref sig .tc .vmem S256x1 .i32) (harg3 : arg3.IsWhole) (arg4 : Memref sig .tc .vmem S8x2048x64 .f32) (harg4 : arg4.IsWhole) (arg5 : Memref sig .tc .vmem S8x64x4096 .f32) (harg5 : arg5.IsWhole) (arg6 : Memref sig .tc .vmem S256x4096 .f32) (harg6 : arg6.IsWhole) (arg7 : Memref sig .tc .vmem S8x2048x64 .bf16) (harg7 : arg7.IsWhole) (arg8 : Memref sig .tc .vmem S8x64x4096 .bf16) (harg8 : arg8.IsWhole) (v5 : Elt F .i32) (v10 : Elt F .i32) (hw : k0_chk1 v5 v10) (x : Vec F S256x2048 .f32) (h3 : k0_cond3 v5 v10 = 1#1) (s : Vec F S256x1 .i32)
    (X7 : BufTy.Contents (Elt F) arg7.view.ty) (X8 : BufTy.Contents (Elt F) arg8.view.ty) (k : ℕ) :
    st_k0_t1 (F := F) 𝒱 c bd i arg1 harg1 arg2 harg2 arg3 harg3 arg4 harg4 arg5 harg5 arg6 harg6 arg7 harg7 arg8 harg8 v5 v10 hw x h3 s X7 X8 k0_pay6 k
      = accum v5 v10 hw h3 x s (arg7.view.read (Elt F) X7) (arg8.view.read (Elt F) X8) k := by
  induction k with
  | zero => rfl
  | succ k ih =>
    rw [st_k0_t1.eq_2, accum.eq_2, ih]
    unfold st_k0_t1Step
    by_cases h : k < (k0_t1_loop v5 v10).trips
    · rw [dif_pos h, dif_pos h, trip_eq]
    · rw [dif_neg h, dif_neg h]

/-! ## One grid point -/

/-- The resources a grid point's run takes and gives back: the table, the four fetched blocks, the output block and the
    two scratch buffers. -/
abbrev Pt (c : Dev nD) (arg2 : Memref sig .tc .vmem S256x2048 .f32) (arg3 : Memref sig .tc .vmem S256x1 .i32) (arg4 : Memref sig .tc .vmem S8x2048x64 .f32) (arg5 : Memref sig .tc .vmem S8x64x4096 .f32) (arg6 : Memref sig .tc .vmem S256x4096 .f32)
    (T : S4096.Idx → Elt F .i32) (x : S256x2048.Idx → Elt F .f32) (s : S256x1.Idx → Elt F .i32) (A : S8x2048x64.Idx → Elt F .f32) (B : S8x64x4096.Idx → Elt F .f32)
    (o : S256x4096.Idx → Elt F .f32) (p7 : S8x2048x64.Idx → Elt F .bf16) (p8 : S8x64x4096.Idx → Elt F .bf16) : sProp 𝕄 :=
  iprop(((Memref.whole main_arg3).view.loc (c : Thread nD τ) ↦{fullShare} T)
    ∗ (arg2.view.loc (c : Thread nD τ) ↦[arg2.view.set]{fullShare} arg2.view.rep x)
    ∗ (arg3.view.loc (c : Thread nD τ) ↦[arg3.view.set]{fullShare} arg3.view.rep s)
    ∗ (arg4.view.loc (c : Thread nD τ) ↦[arg4.view.set]{fullShare} arg4.view.rep A)
    ∗ (arg5.view.loc (c : Thread nD τ) ↦[arg5.view.set]{fullShare} arg5.view.rep B)
    ∗ (arg6.view.loc (c : Thread nD τ) ↦[arg6.view.set]{fullShare} arg6.view.rep o)
    ∗ ((Memref.whole cc0_scratch0).view.loc (c : Thread nD τ) ↦[(Memref.whole cc0_scratch0).view.set]{fullShare} (Memref.whole cc0_scratch0).view.rep p7)
    ∗ ((Memref.whole cc0_scratch1).view.loc (c : Thread nD τ) ↦[(Memref.whole cc0_scratch1).view.set]{fullShare} (Memref.whole cc0_scratch1).view.rep p8))

/-- The first point, one slot. -/
theorem run_first_one (c : Dev nD) (i : grid0.Coords)
    (arg2 : Memref sig .tc .vmem S256x2048 .f32) (harg2 : arg2.IsWhole) (arg3 : Memref sig .tc .vmem S256x1 .i32) (harg3 : arg3.IsWhole) (arg4 : Memref sig .tc .vmem S8x2048x64 .f32) (harg4 : arg4.IsWhole) (arg5 : Memref sig .tc .vmem S8x64x4096 .f32) (harg5 : arg5.IsWhole) (arg6 : Memref sig .tc .vmem S256x4096 .f32) (harg6 : arg6.IsWhole)
    (T : S4096.Idx → Elt F .i32)
    (x : S256x2048.Idx → Elt F .f32) (s : S256x1.Idx → Elt F .i32) (A : S8x2048x64.Idx → Elt F .f32) (B : S8x64x4096.Idx → Elt F .f32)
    (o : S256x4096.Idx → Elt F .f32) (p7 : S8x2048x64.Idx → Elt F .bf16) (p8 : S8x64x4096.Idx → Elt F .bf16)
    (hchk : k0_chk1 (slotLo i T) (slotHi i T))
    (hf : isFirst i = 1#1) (h2 : k0_cond2 (slotLo i T) (slotHi i T) = 1#1) (h3 : ¬ k0_cond3 (slotLo i T) (slotHi i T) = 1#1)
    (Q : PUnit → sProp 𝕄) :
    iprop(Pt c arg2 arg3 arg4 arg5 arg6 T x s A B o p7 p8
      ∗ (Pt c arg2 arg3 arg4 arg5 arg6 T x s A B (blockOut (slotLo i T) (slotHi i T) x s (k0_pay1 A) (k0_pay2 B)) (k0_pay1 A) (k0_pay2 B) -∗ Q ⟨⟩))
    ⊢ wp frame (wpE (defs₀ (F := F)) Variants.none c none) Set.univ
        (cc0__lora_block_kernel i (Memref.whole main_arg3) (Memref.isWhole_whole _) arg2 harg2 arg3 harg3 arg4 harg4 arg5 harg5 arg6 harg6
          (Memref.whole cc0_scratch0) (Memref.isWhole_whole _) (Memref.whole cc0_scratch1) (Memref.isWhole_whole _)) Q := by
  rw [cc0__lora_block_kernel_eq_skeleton]
  unfold cc0__lora_block_kernel_skel
  iintro ⟨⟨HT, H2, H3, H4, H5, H6, H7, H8⟩, HQ⟩
  sl_exec
  sl_step
  iapply HQ
  isplitl [HT]; · iexact HT
  isplitl [H2]; · iexact H2
  isplitl [H3]; · iexact H3
  isplitl [H4]; · iexact H4
  isplitl [H5]; · iexact H5
  isplitl [H6]
  · iapply (pointsTo_rep_of_read (c : Thread nD τ) arg6 _ _ _ ?_) $$ H6
    rw [View.read_writes_full, View.readAt_rep_full]
    refine Eq.trans ?_ (blockOut_one hchk h2 x s (k0_pay1 A) (k0_pay2 B)).symm
    unfold run_first_one.sl.v20 run_first_one.sl.v25 run_first_one.sl.H7_1 run_first_one.sl.H8_1
    rw [View.readAt_rep_full, View.readAt_rep_full]
    exact congrArg₂ (k0_pay4 x) (slab0 (Memref.whole cc0_scratch0) _ _ (stored0 (Memref.whole cc0_scratch0) _ _) _ _)
      (slab1 (Memref.whole cc0_scratch1) _ _ (stored1 (Memref.whole cc0_scratch1) _ _) _ _)
  isplitl [H7]
  · iapply (pointsTo_rep_of_read (c : Thread nD τ) (Memref.whole cc0_scratch0) _ _ _ ?_) $$ H7
    unfold run_first_one.sl.H7_1
    rw [View.readAt_rep_full]
    exact stored0 (Memref.whole cc0_scratch0) _ _
  · iapply (pointsTo_rep_of_read (c : Thread nD τ) (Memref.whole cc0_scratch1) _ _ _ ?_) $$ H8
    unfold run_first_one.sl.H8_1
    rw [View.readAt_rep_full]
    exact stored1 (Memref.whole cc0_scratch1) _ _

/-- The first point, several slots. -/
theorem run_first_many (c : Dev nD) (i : grid0.Coords)
    (arg2 : Memref sig .tc .vmem S256x2048 .f32) (harg2 : arg2.IsWhole) (arg3 : Memref sig .tc .vmem S256x1 .i32) (harg3 : arg3.IsWhole) (arg4 : Memref sig .tc .vmem S8x2048x64 .f32) (harg4 : arg4.IsWhole) (arg5 : Memref sig .tc .vmem S8x64x4096 .f32) (harg5 : arg5.IsWhole) (arg6 : Memref sig .tc .vmem S256x4096 .f32) (harg6 : arg6.IsWhole)
    (T : S4096.Idx → Elt F .i32)
    (x : S256x2048.Idx → Elt F .f32) (s : S256x1.Idx → Elt F .i32) (A : S8x2048x64.Idx → Elt F .f32) (B : S8x64x4096.Idx → Elt F .f32)
    (o : S256x4096.Idx → Elt F .f32) (p7 : S8x2048x64.Idx → Elt F .bf16) (p8 : S8x64x4096.Idx → Elt F .bf16)
    (hchk : k0_chk1 (slotLo i T) (slotHi i T))
    (hf : isFirst i = 1#1) (h2 : ¬ k0_cond2 (slotLo i T) (slotHi i T) = 1#1) (h3 : k0_cond3 (slotLo i T) (slotHi i T) = 1#1)
    (Q : PUnit → sProp 𝕄) :
    iprop(Pt c arg2 arg3 arg4 arg5 arg6 T x s A B o p7 p8
      ∗ (Pt c arg2 arg3 arg4 arg5 arg6 T x s A B (blockOut (slotLo i T) (slotHi i T) x s (k0_pay1 A) (k0_pay2 B)) (k0_pay1 A) (k0_pay2 B) -∗ Q ⟨⟩))
    ⊢ wp frame (wpE (defs₀ (F := F)) Variants.none c none) Set.univ
        (cc0__lora_block_kernel i (Memref.whole main_arg3) (Memref.isWhole_whole _) arg2 harg2 arg3 harg3 arg4 harg4 arg5 harg5 arg6 harg6
          (Memref.whole cc0_scratch0) (Memref.isWhole_whole _) (Memref.whole cc0_scratch1) (Memref.isWhole_whole _)) Q := by
  rw [cc0__lora_block_kernel_eq_skeleton]
  unfold cc0__lora_block_kernel_skel
  iintro ⟨⟨HT, H2, H3, H4, H5, H6, H7, H8⟩, HQ⟩
  sl_exec
  sl_step
  iapply HQ
  isplitl [HT]; · iexact HT
  isplitl [H2]; · iexact H2
  isplitl [H3]; · iexact H3
  isplitl [H4]; · iexact H4
  isplitl [H5]; · iexact H5
  isplitl [H6]
  · iapply (pointsTo_rep_of_read (c : Thread nD τ) arg6 _ _ _ ?_) $$ H6
    rw [View.read_writes_full, View.readAt_rep_full, View.readAt_rep_full]
    refine (st_eq _ _ _ _ _ _ _ _ _ _ _ _ _ _ _ _ _ _ _ _ _ _ _ _ _ _ _ _ _).trans ?_
    refine Eq.trans ?_ (blockOut_many hchk h3 x s (k0_pay1 A) (k0_pay2 B)).symm
    unfold run_first_many.sl.H7_1 run_first_many.sl.H8_1
    rw [View.readAt_rep_full, View.readAt_rep_full]
    exact congrArg₂ (fun a b => accum _ _ hchk h3 x s a b _) (stored0 (Memref.whole cc0_scratch0) _ _) (stored1 (Memref.whole cc0_scratch1) _ _)
  isplitl [H7]
  · iapply (pointsTo_rep_of_read (c : Thread nD τ) (Memref.whole cc0_scratch0) _ _ _ ?_) $$ H7
    unfold run_first_many.sl.H7_1
    rw [View.readAt_rep_full]
    exact stored0 (Memref.whole cc0_scratch0) _ _
  · iapply (pointsTo_rep_of_read (c : Thread nD τ) (Memref.whole cc0_scratch1) _ _ _ ?_) $$ H8
    unfold run_first_many.sl.H8_1
    rw [View.readAt_rep_full]
    exact stored1 (Memref.whole cc0_scratch1) _ _

/-- A later point, one slot. -/
theorem run_later_one (c : Dev nD) (i : grid0.Coords)
    (arg2 : Memref sig .tc .vmem S256x2048 .f32) (harg2 : arg2.IsWhole) (arg3 : Memref sig .tc .vmem S256x1 .i32) (harg3 : arg3.IsWhole) (arg4 : Memref sig .tc .vmem S8x2048x64 .f32) (harg4 : arg4.IsWhole) (arg5 : Memref sig .tc .vmem S8x64x4096 .f32) (harg5 : arg5.IsWhole) (arg6 : Memref sig .tc .vmem S256x4096 .f32) (harg6 : arg6.IsWhole)
    (T : S4096.Idx → Elt F .i32)
    (x : S256x2048.Idx → Elt F .f32) (s : S256x1.Idx → Elt F .i32) (A : S8x2048x64.Idx → Elt F .f32) (B : S8x64x4096.Idx → Elt F .f32)
    (o : S256x4096.Idx → Elt F .f32)
    (hchk : k0_chk1 (slotLo i T) (slotHi i T))
    (hf : ¬ isFirst i = 1#1) (h2 : k0_cond2 (slotLo i T) (slotHi i T) = 1#1) (h3 : ¬ k0_cond3 (slotLo i T) (slotHi i T) = 1#1)
    (Q : PUnit → sProp 𝕄) :
    iprop(Pt c arg2 arg3 arg4 arg5 arg6 T x s A B o (k0_pay1 A) (k0_pay2 B)
      ∗ (Pt c arg2 arg3 arg4 arg5 arg6 T x s A B (blockOut (slotLo i T) (slotHi i T) x s (k0_pay1 A) (k0_pay2 B)) (k0_pay1 A) (k0_pay2 B) -∗ Q ⟨⟩))
    ⊢ wp frame (wpE (defs₀ (F := F)) Variants.none c none) Set.univ
        (cc0__lora_block_kernel i (Memref.whole main_arg3) (Memref.isWhole_whole _) arg2 harg2 arg3 harg3 arg4 harg4 arg5 harg5 arg6 harg6
          (Memref.whole cc0_scratch0) (Memref.isWhole_whole _) (Memref.whole cc0_scratch1) (Memref.isWhole_whole _)) Q := by
  rw [cc0__lora_block_kernel_eq_skeleton]
  unfold cc0__lora_block_kernel_skel
  iintro ⟨⟨HT, H2, H3, H4, H5, H6, H7, H8⟩, HQ⟩
  sl_exec
  sl_step
  iapply HQ
  isplitl [HT]; · iexact HT
  isplitl [H2]; · iexact H2
  isplitl [H3]; · iexact H3
  isplitl [H4]; · iexact H4
  isplitl [H5]; · iexact H5
  isplitl [H6]
  · iapply (pointsTo_rep_of_read (c : Thread nD τ) arg6 _ _ _ ?_) $$ H6
    rw [View.read_writes_full, View.readAt_rep_full]
    refine Eq.trans ?_ (blockOut_one hchk h2 x s (k0_pay1 A) (k0_pay2 B)).symm
    exact congrArg₂ (k0_pay4 x) (slab0 (Memref.whole cc0_scratch0) _ _ (View.read_rep _ _) _ _)
      (slab1 (Memref.whole cc0_scratch1) _ _ (View.read_rep _ _) _ _)
  isplitl [H7]; · iexact H7
  iexact H8

/-- A later point, several slots. -/
theorem run_later_many (c : Dev nD) (i : grid0.Coords)
    (arg2 : Memref sig .tc .vmem S256x2048 .f32) (harg2 : arg2.IsWhole) (arg3 : Memref sig .tc .vmem S256x1 .i32) (harg3 : arg3.IsWhole) (arg4 : Memref sig .tc .vmem S8x2048x64 .f32) (harg4 : arg4.IsWhole) (arg5 : Memref sig .tc .vmem S8x64x4096 .f32) (harg5 : arg5.IsWhole) (arg6 : Memref sig .tc .vmem S256x4096 .f32) (harg6 : arg6.IsWhole)
    (T : S4096.Idx → Elt F .i32)
    (x : S256x2048.Idx → Elt F .f32) (s : S256x1.Idx → Elt F .i32) (A : S8x2048x64.Idx → Elt F .f32) (B : S8x64x4096.Idx → Elt F .f32)
    (o : S256x4096.Idx → Elt F .f32)
    (hchk : k0_chk1 (slotLo i T) (slotHi i T))
    (hf : ¬ isFirst i = 1#1) (h2 : ¬ k0_cond2 (slotLo i T) (slotHi i T) = 1#1) (h3 : k0_cond3 (slotLo i T) (slotHi i T) = 1#1)
    (Q : PUnit → sProp 𝕄) :
    iprop(Pt c arg2 arg3 arg4 arg5 arg6 T x s A B o (k0_pay1 A) (k0_pay2 B)
      ∗ (Pt c arg2 arg3 arg4 arg5 arg6 T x s A B (blockOut (slotLo i T) (slotHi i T) x s (k0_pay1 A) (k0_pay2 B)) (k0_pay1 A) (k0_pay2 B) -∗ Q ⟨⟩))
    ⊢ wp frame (wpE (defs₀ (F := F)) Variants.none c none) Set.univ
        (cc0__lora_block_kernel i (Memref.whole main_arg3) (Memref.isWhole_whole _) arg2 harg2 arg3 harg3 arg4 harg4 arg5 harg5 arg6 harg6
          (Memref.whole cc0_scratch0) (Memref.isWhole_whole _) (Memref.whole cc0_scratch1) (Memref.isWhole_whole _)) Q := by
  rw [cc0__lora_block_kernel_eq_skeleton]
  unfold cc0__lora_block_kernel_skel
  iintro ⟨⟨HT, H2, H3, H4, H5, H6, H7, H8⟩, HQ⟩
  sl_exec
  sl_step
  iapply HQ
  isplitl [HT]; · iexact HT
  isplitl [H2]; · iexact H2
  isplitl [H3]; · iexact H3
  isplitl [H4]; · iexact H4
  isplitl [H5]; · iexact H5
  isplitl [H6]
  · iapply (pointsTo_rep_of_read (c : Thread nD τ) arg6 _ _ _ ?_) $$ H6
    rw [View.read_writes_full, View.readAt_rep_full, View.readAt_rep_full]
    refine (st_eq _ _ _ _ _ _ _ _ _ _ _ _ _ _ _ _ _ _ _ _ _ _ _ _ _ _ _ _ _).trans ?_
    rw [View.read_rep, View.read_rep]
    exact (blockOut_many hchk h3 x s (k0_pay1 A) (k0_pay2 B)).symm
  isplitl [H7]; · iexact H7
  iexact H8

/-- The body at a grid point, from words satisfying its check: the tables in scratch at the first point, whatever was
    there; kept at a later one; the block it computes in the output's buffer; everything else as it was. -/
theorem body_run (c : Dev nD) (i : grid0.Coords)
    (arg2 : Memref sig .tc .vmem S256x2048 .f32) (harg2 : arg2.IsWhole) (arg3 : Memref sig .tc .vmem S256x1 .i32) (harg3 : arg3.IsWhole) (arg4 : Memref sig .tc .vmem S8x2048x64 .f32) (harg4 : arg4.IsWhole) (arg5 : Memref sig .tc .vmem S8x64x4096 .f32) (harg5 : arg5.IsWhole) (arg6 : Memref sig .tc .vmem S256x4096 .f32) (harg6 : arg6.IsWhole)
    (T : S4096.Idx → Elt F .i32)
    (x : S256x2048.Idx → Elt F .f32) (s : S256x1.Idx → Elt F .i32) (A : S8x2048x64.Idx → Elt F .f32) (B : S8x64x4096.Idx → Elt F .f32)
    (o : S256x4096.Idx → Elt F .f32) (p7 : S8x2048x64.Idx → Elt F .bf16) (p8 : S8x64x4096.Idx → Elt F .bf16)
    (hchk : k0_chk1 (slotLo i T) (slotHi i T))
    (hs : ¬ isFirst i = 1#1 → p7 = k0_pay1 A ∧ p8 = k0_pay2 B)
    (Q : PUnit → sProp 𝕄) :
    iprop(Pt c arg2 arg3 arg4 arg5 arg6 T x s A B o p7 p8
      ∗ (Pt c arg2 arg3 arg4 arg5 arg6 T x s A B (blockOut (slotLo i T) (slotHi i T) x s (k0_pay1 A) (k0_pay2 B)) (k0_pay1 A) (k0_pay2 B) -∗ Q ⟨⟩))
    ⊢ wp frame (wpE (defs₀ (F := F)) Variants.none c none) Set.univ
        (cc0__lora_block_kernel i (Memref.whole main_arg3) (Memref.isWhole_whole _) arg2 harg2 arg3 harg3 arg4 harg4 arg5 harg5 arg6 harg6
          (Memref.whole cc0_scratch0) (Memref.isWhole_whole _) (Memref.whole cc0_scratch1) (Memref.isWhole_whole _)) Q := by
  by_cases hf : isFirst i = 1#1
  · by_cases h2 : k0_cond2 (slotLo i T) (slotHi i T) = 1#1
    · exact run_first_one c i arg2 harg2 arg3 harg3 arg4 harg4 arg5 harg5 arg6 harg6 T x s A B o p7 p8 hchk hf h2 (fun h => (cond3_iff _ _).mp h h2) Q
    · exact run_first_many c i arg2 harg2 arg3 harg3 arg4 harg4 arg5 harg5 arg6 harg6 T x s A B o p7 p8 hchk hf h2 ((cond3_iff _ _).mpr h2) Q
  · obtain ⟨rfl, rfl⟩ := hs hf
    by_cases h2 : k0_cond2 (slotLo i T) (slotHi i T) = 1#1
    · exact run_later_one c i arg2 harg2 arg3 harg3 arg4 harg4 arg5 harg5 arg6 harg6 T x s A B o hchk hf h2 (fun h => (cond3_iff _ _).mp h h2) Q
    · exact run_later_many c i arg2 harg2 arg3 harg3 arg4 harg4 arg5 harg5 arg6 harg6 T x s A B o hchk hf h2 ((cond3_iff _ _).mpr h2) Q

end Cert.Proof.Ideal
end
-- ==== Proof.IdealRun.lean ====
/-
  The printed program's run over any float values: the launch around the body's run (IdealBody.lean).

  The host reshapes the slot table into a column; the region then runs the body at sixteen points with the slot table
  prefetched. The invariant between points holds the table and the two scratch buffers: at something before the first
  point, at the two converted adapter tables after it.
-/
module

public import proofs.«01_k».proof.Proof.IdealBody
public import Idealize.ShloMosaic.Lib.Pipeline.Regions
public import Idealize.ShloMosaic.Lib.Pipeline.Frame
public import Idealize.ShloMosaic.Lib.Pipeline.FrameBody

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Memory at the region's entry -/

/-- Core `c`'s buffers at launch; -/
abbrev V₀ (c : Dev nD) : Valuation τ sig (Elt F) := fun b => m ((c : Dev nD), b)
/-- and when the region is entered: the reshape has run. -/
abbrev V (c : Dev nD) (b : Ref sig .tc) : Buf (Elt F) ((c : Thread nD τ).loc b) := StableHlo.after hostOps0 (V₀ m c) b

/-- The reshape writes its result alone. -/
theorem V_of_ne (c : Dev nD) (b : Ref sig .tc) (hb : b ≠ main_v0) : V m c b = m ((c : Thread nD τ).loc b) :=
  StableHlo.after_of_forall_not_mem (b := Proc.devRef .tc b) hostOps0 (V₀ m c) (by
    intro op hop
    simp only [List.mem_cons, List.mem_nil_iff, or_false] at hop
    subst hop
    simp only [StableHlo.reshape_writes, Finset.mem_singleton]
    exact StableHlo.devRef_ne_of_ne hb)

/-- The slot table as launched. -/
abbrev tbl : S4096.Idx → Elt F .i32 := m (((0 : Dev nD) : Thread nD τ).loc main_arg3)

/-- The prefetched table's contents: the slot table as launched. -/
def tbls : pre0.Contents (Elt F) := fun | ⟨0, _⟩ => tbl m | ⟨_ + 1, h⟩ => absurd h (Nat.not_lt.2 (Nat.le_add_left _ _))

/-- Those contents are admissible: nothing is asked of them. -/
abbrev adm : (p : Fin 1) → (pcfgs (F := F) p).Adm := fun _ => ⟨tbls m, trivial⟩

/-- The table at the region's entry is the table as launched. -/
theorem table_entry (c : Dev nD) : (fun k => V m c (pre0.ref k)) = tbls m := by
  obtain rfl : c = 0 := Subsingleton.elim (α := Fin 1) _ _
  funext k
  obtain rfl : k = 0 := Subsingleton.elim (α := Fin 1) _ _
  exact V_of_ne m 0 main_arg3 (by decide)

/-- The table held whole, as the pipeline states it and as a load needs it. -/
theorem prefHeld_tbl (c : Dev nD) :
    (Pipeline.prefHeld pre0 c (fun _ => fullShare) (adm m 0).1 : sProp 𝕄)
      = ((Memref.whole main_arg3).view.loc (c : Thread nD τ) ↦{fullShare} tbl m) := by
  unfold Pipeline.prefHeld
  exact bigSep_univ_eq_bigSepL [(0 : Fin 1)] (by decide) (by decide) _

/-! ## The blocks -/

/-- The rows point `t` stages, -/
abbrev rowsAt (c : Dev nD) (t : Fin grid0.N) : S256x2048.Idx → Elt F .f32 :=
  (((cfg0 (adm m 0)).win 0).blk t).view.read (Elt F) (V m c main_arg0)
/-- their slots, -/
abbrev slotsAt (c : Dev nD) (t : Fin grid0.N) : S256x1.Idx → Elt F .i32 :=
  (((cfg0 (adm m 0)).win 1).blk t).view.read (Elt F) (V m c main_v0)
/-- and the two adapter tables. -/
abbrev tabA (c : Dev nD) : S8x2048x64.Idx → Elt F .f32 :=
  (((cfg0 (adm m 0)).win 2).blk t0_0).view.read (Elt F) (V m c main_arg1)
/-- The second of the two. -/
abbrev tabB (c : Dev nD) : S8x64x4096.Idx → Elt F .f32 :=
  (((cfg0 (adm m 0)).win 3).blk t0_0).view.read (Elt F) (V m c main_arg2)

/-- The block point `t` leaves. -/
def outAt (c : Dev nD) (t : Fin grid0.N) : S256x4096.Idx → Elt F .f32 :=
  blockOut (slotLo (grid0.coords t) (tbl m)) (slotHi (grid0.coords t) (tbl m)) (rowsAt m c t) (slotsAt m c t) (k0_pay1 (tabA m c)) (k0_pay2 (tabB m c))

/-- The invariant: the slot table, and the scratch buffers, after the first point at the converted tables. -/
def Φc (c : Dev nD) (n : ℕ) : sProp 𝕄 :=
  iprop(((Memref.whole main_arg3).view.loc (c : Thread nD τ) ↦{fullShare} tbl m)
    ∗ ∃ p7 : S8x2048x64.Idx → Elt F .bf16, ∃ p8 : S8x64x4096.Idx → Elt F .bf16,
      ⌜n ≠ 0 → p7 = k0_pay1 (tabA m c) ∧ p8 = k0_pay2 (tabB m c)⌝
      ∗ owns (c : Thread nD τ) (Memref.whole cc0_scratch0) fullShare p7 ∗ owns (c : Thread nD τ) (Memref.whole cc0_scratch1) fullShare p8)

/-- The proof data on core `c`. -/
def dats (_ : Fin 1) (c : Dev nD) : Dat τ (Elt F) Unit ℕ (UR sig nD τ) ℕ (cfg0 (adm m 0)) c where
  A w := V m c (Pipeline.arrRef spec0 w)
  after w t := match w with
    | ⟨0, _⟩ => rowsAt m c t
    | ⟨1, _⟩ => slotsAt m c t
    | ⟨2, _⟩ => tabA m c
    | ⟨3, _⟩ => tabB m c
    | ⟨4, _⟩ => outAt m c t
    | ⟨_ + 5, h⟩ => absurd h (Nat.not_lt.2 (Nat.le_add_left _ _))
  Φ t := Φc m c t.val
  q _ := fullShare
  owed _ := 0

/-- The proof data's arrays are the region-entry contents. -/
theorem A_eq (c : Dev nD) (w : Fin (cfg0 (adm m 0)).W) : (dats m 0 c).A w = V m c (Pipeline.arrRef spec0 w) := by
  dsimp only [dats]

abbrev 𝒱₀ : Variants := Variants.none

/-- The first point is the one whose coordinate is zero. -/
theorem isFirst_iff (t : Fin grid0.N) : isFirst (grid0.coords t) = 1#1 ↔ t.val = 0 := by
  revert t; decide

theorem before0 (c : Dev nD) (t : Fin grid0.N) (d) : (dats m 0 c).before 0 t d = rowsAt m c t :=
  ((dats m 0 c).before_in_eq_fetched 0 rfl (fun _ => rfl) (fun _ _ _ => rfl) (fun _ => rfl) t d).trans rfl
theorem before1 (c : Dev nD) (t : Fin grid0.N) (d) : (dats m 0 c).before 1 t d = slotsAt m c t :=
  ((dats m 0 c).before_in_eq_fetched 1 rfl (fun _ => rfl) (fun _ _ _ => rfl) (fun _ => rfl) t d).trans rfl
theorem before2 (c : Dev nD) (t : Fin grid0.N) (d) : (dats m 0 c).before 2 t d = tabA m c :=
  ((dats m 0 c).before_in_eq_fetched 2 rfl (fun _ => rfl) (fun _ _ _ => rfl) (fun _ => rfl) t d).trans rfl
theorem before3 (c : Dev nD) (t : Fin grid0.N) (d) : (dats m 0 c).before 3 t d = tabB m c :=
  ((dats m 0 c).before_in_eq_fetched 3 rfl (fun _ => rfl) (fun _ _ _ => rfl) (fun _ => rfl) t d).trans rfl

/-- No point is idle for the output: one of the two branches stores it. -/
theorem live4 (i : grid0.Coords) : idle0 (tbls m) 4 i = false := by
  show (!(k0_cond2 _ _ == 1#1) && !(k0_cond3 _ _ == 1#1)) = false
  by_cases h : k0_cond2 ((tbls m).atD 0 (k0_off1 i)) ((tbls m).atD 0 (k0_off2 i)) = 1#1
  · rw [beq_iff_eq.mpr h]; rfl
  · rw [beq_iff_eq.mpr ((cond3_iff _ _).mpr h)]; exact Bool.and_false _

/-- The check the body states holds at every point of the grid. -/
def Checked : Prop := ∀ t : Fin grid0.N, k0_chk1 (slotLo (grid0.coords t) (tbl m)) (slotHi (grid0.coords t) (tbl m))

/-- The library's body obligation. -/
theorem body_obligation (hchk : Checked m) (c : Dev nD) : BodyObligation (dats m 0 c) (defs₀ (F := F)) 𝒱₀ () Set.univ := fun t => by
  rw [bigSep_W0, bigSep_W0]
  simp only [owns_eq_rep]
  rw [show idle0 (tbls m) 4 ((pcfg0.gridAt (tbls m)).coords t) = false from live4 m _]
  rw [show (dats m 0 c).Φ t.castSucc = Φc m c t.val from rfl, show (dats m 0 c).Φ t.succ = Φc m c (t.val + 1) from rfl]
  unfold Φc Dat.owesAt Pipeline.owesWithin
  rw [show (dats m 0 c).owed t.castSucc = 0 from rfl, show (dats m 0 c).owed t.succ = 0 from rfl]
  simp only [owns_eq_rep]
  iintro ⟨⟨HT, ⟨%p7, %p8, %hp, H7, H8⟩⟩, ⟨%W, %hW, HO⟩, ⟨%d0, H0⟩, ⟨%d1, H1⟩, ⟨%d2, H2⟩, ⟨%d3, H3⟩, ⟨%d4, H4⟩⟩
  rw [before0 m c t d0, before1 m c t d1, before2 m c t d2, before3 m c t d3]
  iapply (body_run (F := F) c (grid0.coords t) _ (hstage0_0 (((cfg0 (adm m 0)).slots t 0).cast nbuf0_0)) _ (hstage0_1 (((cfg0 (adm m 0)).slots t 1).cast nbuf0_1)) _ (hstage0_2 (((cfg0 (adm m 0)).slots t 2).cast nbuf0_2))
    _ (hstage0_3 (((cfg0 (adm m 0)).slots t 3).cast nbuf0_3)) _ (hstage0_4 (((cfg0 (adm m 0)).slots t 4).cast nbuf0_4)) (tbl m) (rowsAt m c t) (slotsAt m c t) (tabA m c) (tabB m c)
    ((dats m 0 c).before 4 t d4) p7 p8 (hchk t) (fun h => hp (mt (isFirst_iff t).mpr h)) _)
  isplitl [HT H0 H1 H2 H3 H4 H7 H8]
  · isplitl [HT]; · iexact HT
    isplitl [H0]; · iexact H0
    isplitl [H1]; · iexact H1
    isplitl [H2]; · iexact H2
    isplitl [H3]; · iexact H3
    isplitl [H4]; · iexact H4
    isplitl [H7]; · iexact H7
    iexact H8
  iintro ⟨HT, H0, H1, H2, H3, H4, H7, H8⟩
  isplitl [HT H7 H8]
  · isplitl [HT]; · iexact HT
    iexists _; iexists _
    isplitr; swap
    · isplitl [H7]; · iexact H7
      iexact H8
    ipureintro; exact fun _ => ⟨rfl, rfl⟩
  isplitl [HO]
  · iexists W; isplitr; · ipureintro; exact fun _ _ => Or.inl trivial
    iexact HO
  isplitl [H0]; · iexact H0
  isplitl [H1]; · iexact H1
  isplitl [H2]; · iexact H2
  isplitl [H3]; · iexact H3
  iexact H4

/-! ## The launch -/

variable (ρ : Dev nD → PrngReg)

/-- The launch element: the pipeline library's at the staging cells and the pipeline's transfers. -/
def u₀ : UR sig nD τ :=
  initOf (Pipeline.cells (Pipeline.pin (pcfgs (F := F)) (adm m)) (cellOf_inj (adm m))) (Pipeline.launchToks (Pipeline.pin (pcfgs (F := F)) (adm m)) (cellOf_inj (adm m)))

/-- An array's contents after the run, as the library computes them. -/
def finalA (c : Dev nD) (w : Fin 5) : Buf (Elt F) ((spec0 w).arr.view.loc (c : Thread nD τ)) := (dats m 0 c).arrAt w grid0.N

/-- No core owes another anything: no level is assigned. -/
abbrev L : GSem nD τ sig → Finset Unit := fun _ => ∅
/-- The levels: all zero. -/
abbrev lv : GSem nD τ sig → Unit → ℕ := fun _ _ => 0

/-- What rides beside the buffers through the host operation. -/
abbrev R (c : Dev nD) : sProp 𝕄 := iprop(∃ W, owes (c : Thread nD τ) (0 : CellTallies nD τ sig Unit) W)

/-- The host segment: the reshape, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- What the region leaves for the end: its arrays at the final contents and the slot table. -/
abbrev Tₙ (c : Dev nD) : sProp 𝕄 :=
  iprop((dats m 0 c).arrays ((dats m 0 c).arrAt · grid0.N) ∗ ((Memref.whole main_arg3).view.loc (c : Thread nD τ) ↦{fullShare} tbl m))

set_option backward.isDefEq.respectTransparency.types false in
/-- The region. -/
def reg0 (hchk : Checked m) : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation m hchk c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(Tₙ m c ∗ R c)
  X c := iprop(emp)
  Y c := iprop((Memref.whole main_arg3).view.loc (c : Thread nD τ) ↦{fullShare} tbl m)
  Z c := iprop(emp)
  hentry c := by
    rw [show StableHlo.held (c : Thread nD τ) (Pipeline.ucRefs τ sig) (StableHlo.after hostOps0 (V₀ m c)) = unscopedBufs c (V m c) from (Pipeline.unscopedBufs_held c _).symm,
      Pipeline.ownSems0_none]
    have hsplit := (Pipeline.arrays_of_unscopedBufs (pcfgs (F := F)) (adm m) (dats m) (launch0 (F := F)).win (launch0 (F := F)).arr_whole c
      ((dats m 0 c).share_full fun _ => rfl) (V m c) (A_eq m c)).trans
        (sep_mono .rfl ((Entails.of_eq (Pipeline.unscopedRest_split preFacts0 c (V m c)))))
    iintro ⟨⟨Hub, HO⟩, -, -⟩
    ihave H := hsplit $$ Hub
    icases H with ⟨Ha, Hp, -⟩
    imodintro
    isplitl [Ha]; · iexact Ha
    isplitl [Hp]
    · rw [table_entry m c]; iexact Hp
    isplitl [HO]
    · unfold Pipeline.Dat.owesAt Pipeline.owesWithin
      icases HO with ⟨%W, HO⟩; iexists W; isplitr; · ipureintro; exact fun _ _ => Or.inl trivial
      iexact HO
    isplitr <;> iempintro
  hin c := by
    rw [show (dats m 0 c).Φ 0 = Φc m c 0 from rfl, scopedRest0_eq]
    unfold Φc
    simp only [owns_whole_eq]
    rw [show (Pipeline.prefHeld pre0 c (fun _ => fullShare) (adm m 0).1 : sProp 𝕄) = _ from prefHeld_tbl m c]
    iintro ⟨-, HT, ⟨%f7, H7⟩, ⟨%f8, H8⟩⟩
    isplitl [HT]; · iexact HT
    iexists f7; iexists f8
    isplitr; · ipureintro; exact fun h => absurd rfl h
    isplitl [H7]
    · iexists f7; isplitr; · ipureintro; rfl
      iexact H7
    · iexists f8; isplitr; · ipureintro; rfl
      iexact H8
  hout c := by
    rw [Pipeline.ownSems0_none, show (dats m 0 c).Φ (Fin.last (cfg0 (adm m 0)).N) = Φc m c grid0.N from rfl, scopedRest0_eq]
    unfold Φc
    simp only [owns_whole_eq]
    iintro ⟨HT, ⟨%p7, %p8, -, ⟨%f7, -, H7⟩, ⟨%f8, -, H8⟩⟩⟩
    isplitl [HT]; · iexact HT
    isplitr; · iempintro
    isplitl [H7]
    · iexists f7; iexact H7
    · iexists f8; iexact H8
  hexit c := by
    iintro ⟨Ha, HO, HY, -⟩
    imodintro
    isplitr [HO]
    · isplitl [Ha]; · iexact Ha
      iexact HY
    · unfold Pipeline.Dat.owesAt Pipeline.owesWithin
      icases HO with ⟨%W, -, HO⟩; iexists W; iexact HO

/-- @main as the list of the two. -/
abbrev segs (hchk : Checked m) : List (Pipeline.Seg (pcfgs (F := F)) (adm m) (dats m) () defs₀ 𝒱₀ L lv) := [.host (seg0 m), .region (reg0 m hchk)]

set_option backward.isDefEq.respectTransparency.types false in
/-- From any memory whose slot table meets the body's check, with zero counters: every weakly fair execution of @main
    terminates, nothing faulting, and every final state has the windows' arrays at the computed contents, the slot table
    unchanged and every counter at zero. -/
theorem run_main (hchk : Checked m) :
    θ_run defs (onTc (τ := τ) (main (F := F))) ⟨m, fun _ => 0, ρ⟩ (fun r =>
      (∀ c : Dev nD, (∀ w : Fin 5, r.2.mem ((spec0 w).arr.view.loc (c : Thread nD τ)) = finalA m c w)
        ∧ r.2.mem ((c : Thread nD τ).loc main_arg3) = tbl m) ∧ r.2.sem = fun _ => 0) :=
  Pipeline.θ_run_regions_kit_sems (pcfgs (F := F)) (adm m) (dats m) () (cellOf_inj (adm m)) emb₁ defs₀ 𝒱₀ L lv m ρ main (segs m hchk)
    (fun c Q => by rw [main_segs (adm m) (dats m) () 𝒱₀ L lv (seg0 m) (reg0 m hchk) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      imodintro
      isplitl [Hu]
      · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => (.rfl : _ ⊢ iprop(Tₙ m _ ∗ R _))⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => (∀ w : Fin 5, s.mem ((spec0 w).arr.view.loc (c : Thread nD τ)) = finalA m c w)
      ∧ s.mem ((c : Thread nD τ).loc main_arg3) = tbl m)
    (hfin := fun c s' => by
      dsimp only [Tₙ]
      iintro ⟨⟨Ha, H1⟩, HSI⟩
      icombine HSI H1 gives %h
      ihave Hr := (Pipeline.arrays_read (pcfgs (F := F)) (adm m) (dats m) (launch0 (F := F)).arr_whole c ((dats m 0 c).share_full fun _ => rfl) _ s') $$ [Ha HSI]
      · isplitl [Ha] <;> iassumption
      icases Hr with ⟨%ha, HSI⟩
      imodintro
      isplitr; · ipureintro; exact ⟨ha, Buf.eq_of_forall_mem_univ h⟩
      iexact HSI)
    (hQ := fun _ h hz => ⟨h, funext fun g => hz g (.inr (by revert g; decide))⟩)

end Cert.Proof.Ideal

end
-- ==== Proof.IdealFrame.lean ====
/-
  The printed program's frame over any float values: a sorted slot table meets the body's check at every grid point, so
  the program runs to its end and leaves its arguments as they were.
-/
module

public import proofs.«01_k».proof.Proof.IdealRun
public import proofs.«01_k».proof.Proof.Slots

@[expose] public section

noncomputable section

namespace Cert.Proof.Ideal

open Cert.KernelIdeal Cert.KernelIdeal.Gen
open Idealize.ShloMosaic Idealize.ShloMosaic.TcCoe Idealize.ShloMosaic.ValueIdx Idealize.SL.Sem
open Cert.Proof.Slots

variable {F : FTy → Type} [FloatOps F]

/-! ## The two words a grid point reads -/

/-- A point's coordinate is its number, among sixteen. -/
theorem coord_eq (t : Fin grid0.N) : (grid0.coords t 0).val = t.val ∧ t.val < 16 := by
  revert t; decide
/-- The first row's position in the table, -/
theorem off1_eq (t : Fin grid0.N) : k0_off1 (grid0.coords t) = ![256 * t.val] := by
  revert t; decide +kernel
/-- and the last row's. -/
theorem off2_eq (t : Fin grid0.N) : k0_off2 (grid0.coords t) = ![256 * t.val + 255] := by
  revert t; decide +kernel

/-- Row `r` of block `t`, among all the rows. -/
abbrev rowIx (t : Fin grid0.N) (r : Fin 256) : Fin 4096 := ⟨256 * t.val + r.val, by have := (coord_eq t).2; omega⟩

/-- The point reads the slot of its block's first row; -/
theorem slotLo_eq (t : Fin grid0.N) (T : S4096.Idx → Elt F .i32) : slotLo (grid0.coords t) T = T (ix1 (rowIx t 0)) := by
  refine congrArg T (funext fun a => Fin.ext ?_)
  obtain rfl : a = (0 : Fin 1) := Subsingleton.elim (α := Fin 1) _ _
  show k0_off1 (grid0.coords t) 0 + 1 * 0 = _
  rw [off1_eq]; rfl
/-- and of its last. -/
theorem slotHi_eq (t : Fin grid0.N) (T : S4096.Idx → Elt F .i32) : slotHi (grid0.coords t) T = T (ix1 (rowIx t 255)) := by
  refine congrArg T (funext fun a => Fin.ext ?_)
  obtain rfl : a = (0 : Fin 1) := Subsingleton.elim (α := Fin 1) _ _
  show k0_off2 (grid0.coords t) 0 + 1 * 0 = _
  rw [off2_eq]; rfl

/-- Two words of a sorted table, the first no larger, meet the body's check. -/
theorem chk_of_le {v w : BitVec 32} (hw : w.toNat < 8) (h : v.toNat ≤ w.toNat) : k0_chk1 v w := by
  have := chk_ideal ⟨w.toNat, hw⟩ ⟨v.toNat, h.trans_lt hw⟩ h
  rwa [← word_eq (w := v) rfl, ← word_eq (w := w) rfl] at this

variable (m : (ℓ : Loc nD τ sig) → Buf (Elt F) ℓ)

/-- A sorted slot table meets the check at every point. -/
theorem checked_of_sorted (h : Sorted (tbl m)) : Checked m := fun t => by
  rw [slotLo_eq, slotHi_eq]
  exact chk_of_le (h.1 _) (h.2 _ _ (by show 256 * t.val + 0 ≤ 256 * t.val + 255; omega))

/-! ## The arguments at the end -/

/-- The rows are never written, -/
theorem finalA_0 (c : Dev nD) : finalA m c 0 = m ((c : Thread nD τ).loc main_arg0) :=
  ((dats m 0 c).arrAt_in 0 rfl _).trans ((A_eq m c 0).trans (V_of_ne m c main_arg0 (by decide)))
/-- nor the first table, -/
theorem finalA_2 (c : Dev nD) : finalA m c 2 = m ((c : Thread nD τ).loc main_arg1) :=
  ((dats m 0 c).arrAt_in 2 rfl _).trans ((A_eq m c 2).trans (V_of_ne m c main_arg1 (by decide)))
/-- nor the second. -/
theorem finalA_3 (c : Dev nD) : finalA m c 3 = m ((c : Thread nD τ).loc main_arg2) :=
  ((dats m 0 c).arrAt_in 3 rfl _).trans ((A_eq m c 3).trans (V_of_ne m c main_arg2 (by decide)))

/-- From a sorted slot table the program runs to its end: the result is the library's final array of the output window,
    the arguments are unchanged and every counter is zero. -/
theorem run_args (ρ : Dev nD → PrngReg) (h : Sorted (tbl m)) :
    θ_run defs (onTc (τ := τ) (main (F := F))) ⟨m, fun _ => 0, ρ⟩ (fun r =>
      (∀ c : Dev nD, r.2.mem ((c : Thread nD τ).loc main_v1) = finalA m c 4
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun _ h => ⟨fun c => ⟨(h.1 c).1 4, ((h.1 c).1 0).trans (finalA_0 m c), ((h.1 c).1 2).trans (finalA_2 m c),
      ((h.1 c).1 3).trans (finalA_3 m c), by obtain rfl : c = 0 := Subsingleton.elim (α := Fin 1) _ _; exact (h.1 0).2⟩, h.2⟩)
    (run_main m ρ (checked_of_sorted m h))

end Cert.Proof.Ideal

end
-- ==== Proof.Product.lean ====
/-
  The mathematics of the adapter product over exact values: what row `n` gets in column `q` from slot `e`, and that the
  reference's result at row `n` is the product of that row's own slot, every other slot's term being masked to zero.
-/
module

public import proofs.«01_k».proof.Proof.Gen.ReferenceIdeal.Read
public import Idealize.ShloMosaic.PureOps.Ideal.Laws
public import Idealize.ShloMosaic.Lib.ValueIdx

@[expose] public section

noncomputable section

namespace Cert.Proof.Product

open Cert.ReferenceIdeal Cert.ReferenceIdeal.Read Idealize.ShloMosaic Idealize.ShloMosaic.ValueIdx
open scoped BigOperators

variable (x0 : S4096x2048.Idx → EReal) (x1 : S8x2048x64.Idx → EReal) (x2 : S8x64x4096.Idx → EReal) (x3 : S4096.Idx → BitVec 32)

/-- What slot `e`'s two tables make of row `n`, in column `q`. -/
def prod (e : Fin 8) (n q : Fin 4096) : EReal :=
  ∑ j : Fin 64, (∑ d : Fin 2048, x0 (ix2 n d) * x1 (ix3 e d j)) * x2 (ix3 e j q)

/-- One where the two words agree and zero where they do not. -/
def mask (s e : BitVec 32) : EReal := if s = e then 1 else 0

/-- The reference's mask is that number. -/
theorem uitofp_eq (s e : BitVec 32) : (FloatOps.uitofp (F := Ideal) .f32 (IntOp.cmpi .eq s e) : EReal) = mask s e := by
  unfold mask
  by_cases h : s = e
  · rw [if_pos h, IntOp.cmpi_eq.mpr h]
    show (((1#1 : BitVec 1).toNat : ℝ) : EReal) = 1
    norm_num
  · rw [if_neg h, show IntOp.cmpi .eq s e = 0#1 from eq_zero_of_ne_one (mt IntOp.cmpi_eq.mp h)]
    show (((0#1 : BitVec 1).toNat : ℝ) : EReal) = 0
    norm_num

/-- A masked product, masked again, is the product where the words agree and zero where they do not. -/
theorem masked_twice {s e : BitVec 32} (x : Fin 2048 → EReal) (A : Fin 2048 → Fin 64 → EReal) (B : Fin 64 → EReal) :
    (∑ j, (∑ d, x d * mask s e * A d j) * B j) * mask s e = if s = e then ∑ j, (∑ d, x d * A d j) * B j else 0 := by
  unfold mask
  by_cases h : s = e
  · simp only [if_pos h, mul_one]
  · simp only [if_neg h, mul_zero]

/-- A product masked between its two halves, the same. -/
theorem masked_between {s e : BitVec 32} (x : Fin 2048 → EReal) (A : Fin 2048 → Fin 64 → EReal) (B : Fin 64 → EReal) :
    ∑ j, (∑ d, x d * A d j) * mask s e * B j = if s = e then ∑ j, (∑ d, x d * A d j) * B j else 0 := by
  unfold mask
  by_cases h : s = e
  · simp only [if_pos h, mul_one]
  · simp only [if_neg h, mul_zero, zero_mul, Finset.sum_const_zero]

/-! ## Where the reference's layout steps read -/

/-- The mask of a row, spread over the rows' columns, is read at the row; -/
theorem mask_ix (n : Fin 4096) (d : Fin 2048) : idx_main_v4 (idx_main_v5 (ix2 n d)) = ix1 n := by
  funext a; obtain rfl : a = (0 : Fin 1) := Subsingleton.elim (α := Fin 1) _ _; rfl
/-- and spread over the result's columns too. -/
theorem mask_ix' (n q : Fin 4096) : idx_main_v4 (idx_main_v13 (ix2 n q)) = ix1 n := by
  funext a; obtain rfl : a = (0 : Fin 1) := Subsingleton.elim (α := Fin 1) _ _; rfl
/-- A slot's first table, its unit axis dropped, is read at the slot. -/
theorem tabA_ix (d : Fin 2048) (j : Fin 64) : idx_main_v8 (ix2 d j) = ix3 0 d j := by
  funext a; apply Fin.ext
  match a with
  | ⟨0, _⟩ => rfl
  | ⟨1, _⟩ => show (d.val * 64 + j.val) / 64 % 2048 = d.val; omega
  | ⟨2, _⟩ => show (d.val * 64 + j.val) % 64 = j.val; omega
/-- So is its second. -/
theorem tabB_ix (j : Fin 64) (q : Fin 4096) : idx_main_v11 (ix2 j q) = ix3 0 j q := by
  funext a; apply Fin.ext
  match a with
  | ⟨0, _⟩ => rfl
  | ⟨1, _⟩ => show (j.val * 4096 + q.val) / 4096 % 64 = j.val; omega
  | ⟨2, _⟩ => show (j.val * 4096 + q.val) % 4096 = q.val; omega
/-- The operands of the first product, -/
theorem dotA_ix (n : Fin 4096) (j : Fin 64) (d : Fin 2048) : lidx_main_v9 (ix2 n j) d = ix2 n d ∧ ridx_main_v9 (ix2 n j) d = ix2 d j :=
  ⟨eq_ix2 _, eq_ix2 _⟩
/-- and of the second. -/
theorem dotB_ix (n q : Fin 4096) (j : Fin 64) : lidx_main_v12 (ix2 n q) j = ix2 n j ∧ ridx_main_v12 (ix2 n q) j = ix2 j q :=
  ⟨eq_ix2 _, eq_ix2 _⟩

/-! ## The reference's eight terms -/

/-- Slot 0's term. -/
theorem term0 (n q : Fin 4096) : val_main_v14 (F := Ideal) x0 x1 x2 x3 (ix2 n q) = if x3 (ix1 n) = 0#32 then prod x0 x1 x2 0 n q else 0 := by
  have hm : ∀ k, val_main_v3 (F := Ideal) x3 k = mask (x3 k) 0#32 := fun k => uitofp_eq _ _
  refine Eq.trans ?_ (masked_twice (fun d => x0 (ix2 n d)) (fun d j => x1 (ix3 0 d j)) fun j => x2 (ix3 0 j q))
  rw [val_main_v14_apply, val_main_v13_apply, val_main_v4_apply, hm, show idx_main_v4 (idx_main_v13 (ix2 n q)) = ix1 n from mask_ix' n q, val_main_v12_apply]
  refine congrArg (· * _) (Finset.sum_congr rfl fun j _ => ?_)
  rw [show lidx_main_v12 (ix2 n q) j = ix2 n j from (dotB_ix n q j).1, show ridx_main_v12 (ix2 n q) j = ix2 j q from (dotB_ix n q j).2, val_main_v9_apply,
    val_main_v11_apply, show idx_main_v11 (ix2 j q) = ix3 0 j q from tabB_ix j q, val_main_v10_apply]
  refine congrArg₂ (· * ·) (Finset.sum_congr rfl fun d _ => ?_) (congrArg x2 (eq_ix3 _))
  rw [show lidx_main_v9 (ix2 n j) d = ix2 n d from (dotA_ix n j d).1, show ridx_main_v9 (ix2 n j) d = ix2 d j from (dotA_ix n j d).2, val_main_v6_apply, val_main_v5_apply,
    val_main_v4_apply, hm, show idx_main_v4 (idx_main_v5 (ix2 n d)) = ix1 n from mask_ix n d, val_main_v8_apply, show idx_main_v8 (ix2 d j) = ix3 0 d j from tabA_ix d j, val_main_v7_apply]
  exact congrArg (_ * ·) (congrArg x1 (eq_ix3 _))

/-- Slot 1's term. -/
theorem term1 (n q : Fin 4096) : val_main_v29 (F := Ideal) x0 x1 x2 x3 (ix2 n q) = if x3 (ix1 n) = 1#32 then prod x0 x1 x2 1 n q else 0 := by
  have hm : ∀ k, val_main_v18 (F := Ideal) x3 k = mask (x3 k) 1#32 := fun k => uitofp_eq _ _
  refine Eq.trans ?_ (masked_twice (fun d => x0 (ix2 n d)) (fun d j => x1 (ix3 1 d j)) fun j => x2 (ix3 1 j q))
  rw [val_main_v29_apply, val_main_v28_apply, val_main_v19_apply, hm, show idx_main_v19 (idx_main_v28 (ix2 n q)) = ix1 n from mask_ix' n q, val_main_v27_apply]
  refine congrArg (· * _) (Finset.sum_congr rfl fun j _ => ?_)
  rw [show lidx_main_v27 (ix2 n q) j = ix2 n j from (dotB_ix n q j).1, show ridx_main_v27 (ix2 n q) j = ix2 j q from (dotB_ix n q j).2, val_main_v24_apply,
    val_main_v26_apply, show idx_main_v26 (ix2 j q) = ix3 0 j q from tabB_ix j q, val_main_v25_apply]
  refine congrArg₂ (· * ·) (Finset.sum_congr rfl fun d _ => ?_) (congrArg x2 (eq_ix3 _))
  rw [show lidx_main_v24 (ix2 n j) d = ix2 n d from (dotA_ix n j d).1, show ridx_main_v24 (ix2 n j) d = ix2 d j from (dotA_ix n j d).2, val_main_v21_apply, val_main_v20_apply,
    val_main_v19_apply, hm, show idx_main_v19 (idx_main_v20 (ix2 n d)) = ix1 n from mask_ix n d, val_main_v23_apply, show idx_main_v23 (ix2 d j) = ix3 0 d j from tabA_ix d j, val_main_v22_apply]
  exact congrArg (_ * ·) (congrArg x1 (eq_ix3 _))

/-- Slot 2's term. -/
theorem term2 (n q : Fin 4096) : val_main_v44 (F := Ideal) x0 x1 x2 x3 (ix2 n q) = if x3 (ix1 n) = 2#32 then prod x0 x1 x2 2 n q else 0 := by
  have hm : ∀ k, val_main_v33 (F := Ideal) x3 k = mask (x3 k) 2#32 := fun k => uitofp_eq _ _
  refine Eq.trans ?_ (masked_twice (fun d => x0 (ix2 n d)) (fun d j => x1 (ix3 2 d j)) fun j => x2 (ix3 2 j q))
  rw [val_main_v44_apply, val_main_v43_apply, val_main_v34_apply, hm, show idx_main_v34 (idx_main_v43 (ix2 n q)) = ix1 n from mask_ix' n q, val_main_v42_apply]
  refine congrArg (· * _) (Finset.sum_congr rfl fun j _ => ?_)
  rw [show lidx_main_v42 (ix2 n q) j = ix2 n j from (dotB_ix n q j).1, show ridx_main_v42 (ix2 n q) j = ix2 j q from (dotB_ix n q j).2, val_main_v39_apply,
    val_main_v41_apply, show idx_main_v41 (ix2 j q) = ix3 0 j q from tabB_ix j q, val_main_v40_apply]
  refine congrArg₂ (· * ·) (Finset.sum_congr rfl fun d _ => ?_) (congrArg x2 (eq_ix3 _))
  rw [show lidx_main_v39 (ix2 n j) d = ix2 n d from (dotA_ix n j d).1, show ridx_main_v39 (ix2 n j) d = ix2 d j from (dotA_ix n j d).2, val_main_v36_apply, val_main_v35_apply,
    val_main_v34_apply, hm, show idx_main_v34 (idx_main_v35 (ix2 n d)) = ix1 n from mask_ix n d, val_main_v38_apply, show idx_main_v38 (ix2 d j) = ix3 0 d j from tabA_ix d j, val_main_v37_apply]
  exact congrArg (_ * ·) (congrArg x1 (eq_ix3 _))

/-- Slot 3's term. -/
theorem term3 (n q : Fin 4096) : val_main_v59 (F := Ideal) x0 x1 x2 x3 (ix2 n q) = if x3 (ix1 n) = 3#32 then prod x0 x1 x2 3 n q else 0 := by
  have hm : ∀ k, val_main_v48 (F := Ideal) x3 k = mask (x3 k) 3#32 := fun k => uitofp_eq _ _
  refine Eq.trans ?_ (masked_twice (fun d => x0 (ix2 n d)) (fun d j => x1 (ix3 3 d j)) fun j => x2 (ix3 3 j q))
  rw [val_main_v59_apply, val_main_v58_apply, val_main_v49_apply, hm, show idx_main_v49 (idx_main_v58 (ix2 n q)) = ix1 n from mask_ix' n q, val_main_v57_apply]
  refine congrArg (· * _) (Finset.sum_congr rfl fun j _ => ?_)
  rw [show lidx_main_v57 (ix2 n q) j = ix2 n j from (dotB_ix n q j).1, show ridx_main_v57 (ix2 n q) j = ix2 j q from (dotB_ix n q j).2, val_main_v54_apply,
    val_main_v56_apply, show idx_main_v56 (ix2 j q) = ix3 0 j q from tabB_ix j q, val_main_v55_apply]
  refine congrArg₂ (· * ·) (Finset.sum_congr rfl fun d _ => ?_) (congrArg x2 (eq_ix3 _))
  rw [show lidx_main_v54 (ix2 n j) d = ix2 n d from (dotA_ix n j d).1, show ridx_main_v54 (ix2 n j) d = ix2 d j from (dotA_ix n j d).2, val_main_v51_apply, val_main_v50_apply,
    val_main_v49_apply, hm, show idx_main_v49 (idx_main_v50 (ix2 n d)) = ix1 n from mask_ix n d, val_main_v53_apply, show idx_main_v53 (ix2 d j) = ix3 0 d j from tabA_ix d j, val_main_v52_apply]
  exact congrArg (_ * ·) (congrArg x1 (eq_ix3 _))

/-- Slot 4's term. -/
theorem term4 (n q : Fin 4096) : val_main_v74 (F := Ideal) x0 x1 x2 x3 (ix2 n q) = if x3 (ix1 n) = 4#32 then prod x0 x1 x2 4 n q else 0 := by
  have hm : ∀ k, val_main_v63 (F := Ideal) x3 k = mask (x3 k) 4#32 := fun k => uitofp_eq _ _
  refine Eq.trans ?_ (masked_twice (fun d => x0 (ix2 n d)) (fun d j => x1 (ix3 4 d j)) fun j => x2 (ix3 4 j q))
  rw [val_main_v74_apply, val_main_v73_apply, val_main_v64_apply, hm, show idx_main_v64 (idx_main_v73 (ix2 n q)) = ix1 n from mask_ix' n q, val_main_v72_apply]
  refine congrArg (· * _) (Finset.sum_congr rfl fun j _ => ?_)
  rw [show lidx_main_v72 (ix2 n q) j = ix2 n j from (dotB_ix n q j).1, show ridx_main_v72 (ix2 n q) j = ix2 j q from (dotB_ix n q j).2, val_main_v69_apply,
    val_main_v71_apply, show idx_main_v71 (ix2 j q) = ix3 0 j q from tabB_ix j q, val_main_v70_apply]
  refine congrArg₂ (· * ·) (Finset.sum_congr rfl fun d _ => ?_) (congrArg x2 (eq_ix3 _))
  rw [show lidx_main_v69 (ix2 n j) d = ix2 n d from (dotA_ix n j d).1, show ridx_main_v69 (ix2 n j) d = ix2 d j from (dotA_ix n j d).2, val_main_v66_apply, val_main_v65_apply,
    val_main_v64_apply, hm, show idx_main_v64 (idx_main_v65 (ix2 n d)) = ix1 n from mask_ix n d, val_main_v68_apply, show idx_main_v68 (ix2 d j) = ix3 0 d j from tabA_ix d j, val_main_v67_apply]
  exact congrArg (_ * ·) (congrArg x1 (eq_ix3 _))

/-- Slot 5's term. -/
theorem term5 (n q : Fin 4096) : val_main_v89 (F := Ideal) x0 x1 x2 x3 (ix2 n q) = if x3 (ix1 n) = 5#32 then prod x0 x1 x2 5 n q else 0 := by
  have hm : ∀ k, val_main_v78 (F := Ideal) x3 k = mask (x3 k) 5#32 := fun k => uitofp_eq _ _
  refine Eq.trans ?_ (masked_twice (fun d => x0 (ix2 n d)) (fun d j => x1 (ix3 5 d j)) fun j => x2 (ix3 5 j q))
  rw [val_main_v89_apply, val_main_v88_apply, val_main_v79_apply, hm, show idx_main_v79 (idx_main_v88 (ix2 n q)) = ix1 n from mask_ix' n q, val_main_v87_apply]
  refine congrArg (· * _) (Finset.sum_congr rfl fun j _ => ?_)
  rw [show lidx_main_v87 (ix2 n q) j = ix2 n j from (dotB_ix n q j).1, show ridx_main_v87 (ix2 n q) j = ix2 j q from (dotB_ix n q j).2, val_main_v84_apply,
    val_main_v86_apply, show idx_main_v86 (ix2 j q) = ix3 0 j q from tabB_ix j q, val_main_v85_apply]
  refine congrArg₂ (· * ·) (Finset.sum_congr rfl fun d _ => ?_) (congrArg x2 (eq_ix3 _))
  rw [show lidx_main_v84 (ix2 n j) d = ix2 n d from (dotA_ix n j d).1, show ridx_main_v84 (ix2 n j) d = ix2 d j from (dotA_ix n j d).2, val_main_v81_apply, val_main_v80_apply,
    val_main_v79_apply, hm, show idx_main_v79 (idx_main_v80 (ix2 n d)) = ix1 n from mask_ix n d, val_main_v83_apply, show idx_main_v83 (ix2 d j) = ix3 0 d j from tabA_ix d j, val_main_v82_apply]
  exact congrArg (_ * ·) (congrArg x1 (eq_ix3 _))

/-- Slot 6's term. -/
theorem term6 (n q : Fin 4096) : val_main_v104 (F := Ideal) x0 x1 x2 x3 (ix2 n q) = if x3 (ix1 n) = 6#32 then prod x0 x1 x2 6 n q else 0 := by
  have hm : ∀ k, val_main_v93 (F := Ideal) x3 k = mask (x3 k) 6#32 := fun k => uitofp_eq _ _
  refine Eq.trans ?_ (masked_twice (fun d => x0 (ix2 n d)) (fun d j => x1 (ix3 6 d j)) fun j => x2 (ix3 6 j q))
  rw [val_main_v104_apply, val_main_v103_apply, val_main_v94_apply, hm, show idx_main_v94 (idx_main_v103 (ix2 n q)) = ix1 n from mask_ix' n q, val_main_v102_apply]
  refine congrArg (· * _) (Finset.sum_congr rfl fun j _ => ?_)
  rw [show lidx_main_v102 (ix2 n q) j = ix2 n j from (dotB_ix n q j).1, show ridx_main_v102 (ix2 n q) j = ix2 j q from (dotB_ix n q j).2, val_main_v99_apply,
    val_main_v101_apply, show idx_main_v101 (ix2 j q) = ix3 0 j q from tabB_ix j q, val_main_v100_apply]
  refine congrArg₂ (· * ·) (Finset.sum_congr rfl fun d _ => ?_) (congrArg x2 (eq_ix3 _))
  rw [show lidx_main_v99 (ix2 n j) d = ix2 n d from (dotA_ix n j d).1, show ridx_main_v99 (ix2 n j) d = ix2 d j from (dotA_ix n j d).2, val_main_v96_apply, val_main_v95_apply,
    val_main_v94_apply, hm, show idx_main_v94 (idx_main_v95 (ix2 n d)) = ix1 n from mask_ix n d, val_main_v98_apply, show idx_main_v98 (ix2 d j) = ix3 0 d j from tabA_ix d j, val_main_v97_apply]
  exact congrArg (_ * ·) (congrArg x1 (eq_ix3 _))

/-- Slot 7's term. -/
theorem term7 (n q : Fin 4096) : val_main_v119 (F := Ideal) x0 x1 x2 x3 (ix2 n q) = if x3 (ix1 n) = 7#32 then prod x0 x1 x2 7 n q else 0 := by
  have hm : ∀ k, val_main_v108 (F := Ideal) x3 k = mask (x3 k) 7#32 := fun k => uitofp_eq _ _
  refine Eq.trans ?_ (masked_twice (fun d => x0 (ix2 n d)) (fun d j => x1 (ix3 7 d j)) fun j => x2 (ix3 7 j q))
  rw [val_main_v119_apply, val_main_v118_apply, val_main_v109_apply, hm, show idx_main_v109 (idx_main_v118 (ix2 n q)) = ix1 n from mask_ix' n q, val_main_v117_apply]
  refine congrArg (· * _) (Finset.sum_congr rfl fun j _ => ?_)
  rw [show lidx_main_v117 (ix2 n q) j = ix2 n j from (dotB_ix n q j).1, show ridx_main_v117 (ix2 n q) j = ix2 j q from (dotB_ix n q j).2, val_main_v114_apply,
    val_main_v116_apply, show idx_main_v116 (ix2 j q) = ix3 0 j q from tabB_ix j q, val_main_v115_apply]
  refine congrArg₂ (· * ·) (Finset.sum_congr rfl fun d _ => ?_) (congrArg x2 (eq_ix3 _))
  rw [show lidx_main_v114 (ix2 n j) d = ix2 n d from (dotA_ix n j d).1, show ridx_main_v114 (ix2 n j) d = ix2 d j from (dotA_ix n j d).2, val_main_v111_apply, val_main_v110_apply,
    val_main_v109_apply, hm, show idx_main_v109 (idx_main_v110 (ix2 n d)) = ix1 n from mask_ix n d, val_main_v113_apply, show idx_main_v113 (ix2 d j) = ix3 0 d j from tabA_ix d j, val_main_v112_apply]
  exact congrArg (_ * ·) (congrArg x1 (eq_ix3 _))

/-- The reference's result at a row whose slot is `e` is slot `e`'s product alone. -/
theorem reference_eq (n q : Fin 4096) (e : Fin 8) (h : x3 (ix1 n) = BitVec.ofNat 32 e.val) :
    val_main_v120 (F := Ideal) x0 x1 x2 x3 (ix2 n q) = prod x0 x1 x2 e n q := by
  rw [val_main_v120_apply, term7, val_main_v105_apply, term6, val_main_v90_apply, term5, val_main_v75_apply, term4, val_main_v60_apply, term3, val_main_v45_apply, term2, val_main_v30_apply, term1, val_main_v15_apply, term0, val_main_v0_apply, val_main_cst_apply,
    show (FloatOps.ofBits (F := Ideal) .f32 0x00000000#32 : EReal) = 0 from Ideal.ofBits_zero_f32, h]
  show ((((((((0 : EReal) + _) + _) + _) + _) + _) + _) + _) + _ = _
  fin_cases e <;> simp

end Cert.Proof.Product

end
-- ==== Proof.Block.lean ====
/-
  The block a grid point leaves, over exact values: at row `r` and column `q` it is the product of that row's own slot,
  whether the block holds one slot (one product) or several (the products of every slot between the first row's and the
  last row's, each masked to its own rows, added up).
-/
module

public import proofs.«01_k».proof.Proof.IdealFrame
public import proofs.«01_k».proof.Proof.Product
public import Idealize.ShloMosaic.Lib.MatmulPlain
public import Idealize.ShloMosaic.Lib.ValueLayout

@[expose] public section

noncomputable section

namespace Cert.Proof.Ideal

open Cert.KernelIdeal Cert.KernelIdeal.Gen
open Idealize.ShloMosaic Idealize.ShloMosaic.ValueIdx
open Cert.Proof.Product (mask masked_between)
open scoped BigOperators

variable (x : S256x2048.Idx → EReal) (s : S256x1.Idx → BitVec 32) (A : S8x2048x64.Idx → EReal) (B : S8x64x4096.Idx → EReal)

/-- What slot `e`'s two tables make of the block's row `r`, in column `q`. -/
def bprod (e : Fin 8) (r : Fin 256) (q : Fin 4096) : EReal :=
  ∑ j : Fin 64, (∑ d : Fin 2048, x (ix2 r d) * A (ix3 e d j)) * B (ix3 e j q)

/-! ## The operations of one product -/

/-- The product with a first table, from zero. -/
theorem dotA_apply (a : FVec Ideal S256x2048 .bf16) (b : FVec Ideal S2048x64 .bf16) (r : Fin 256) (j : Fin 64) :
    matmul dot_S256x2048_S2048x64_S256x64_1_0_0_1_n_n none a b (constant (F := Ideal) S256x64 .f32 0x00000000#32) (ix2 r j)
      = ∑ d : Fin 2048, a (ix2 r d) * b (ix2 d j) := by
  refine (Ideal.matmul_plain_apply (M := 256) (K := 2048) (N := 64) none a b (constant (F := Ideal) S256x64 .f32 0x00000000#32) r j).trans ?_
  rw [constant_apply, Ideal.ofBits_zero_f32]
  exact zero_add _
/-- The product with a second table, from zero. -/
theorem dotB_apply (a : FVec Ideal S256x64 .bf16) (b : FVec Ideal S64x4096 .bf16) (r : Fin 256) (q : Fin 4096) :
    matmul dot_S256x64_S64x4096_S256x4096_1_0_0_1_n_n none a b (constant (F := Ideal) S256x4096 .f32 0x00000000#32) (ix2 r q)
      = ∑ j : Fin 64, a (ix2 r j) * b (ix2 j q) := by
  refine (Ideal.matmul_plain_apply (M := 256) (K := 64) (N := 4096) none a b (constant (F := Ideal) S256x4096 .f32 0x00000000#32) r q).trans ?_
  rw [constant_apply, Ideal.ofBits_zero_f32]
  exact zero_add _

/-- One slot of the first table, read out of the whole; -/
theorem windowA_apply (off : Fin 3 → ℕ) (inb : ∀ a, off a + S1x2048x64.size a ≤ S8x2048x64.size a) (e : Fin 8) (h : off = ![e.val, 0, 0])
    (d : Fin 2048) (j : Fin 64) : VecWindow.window A off S1x2048x64.size inb (ix3 (0 : Fin 1) d j) = A (ix3 e d j) := by
  subst h
  refine congrArg A (funext fun a => Fin.ext ?_)
  match a with
  | ⟨0, _⟩ => show e.val + 1 * 0 = e.val; omega
  | ⟨1, _⟩ => show 0 + 1 * d.val = d.val; omega
  | ⟨2, _⟩ => show 0 + 1 * j.val = j.val; omega
/-- and of the second. -/
theorem windowB_apply (off : Fin 3 → ℕ) (inb : ∀ a, off a + S1x64x4096.size a ≤ S8x64x4096.size a) (e : Fin 8) (h : off = ![e.val, 0, 0])
    (j : Fin 64) (q : Fin 4096) : VecWindow.window B off S1x64x4096.size inb (ix3 (0 : Fin 1) j q) = B (ix3 e j q) := by
  subst h
  refine congrArg B (funext fun a => Fin.ext ?_)
  match a with
  | ⟨0, _⟩ => show e.val + 1 * 0 = e.val; omega
  | ⟨1, _⟩ => show 0 + 1 * j.val = j.val; omega
  | ⟨2, _⟩ => show 0 + 1 * q.val = q.val; omega

/-- A product of one slot's two tables, read out of the whole. -/
theorem windows_sum (offA offB : Fin 3 → ℕ) (inbA : ∀ a, offA a + S1x2048x64.size a ≤ S8x2048x64.size a) (inbB : ∀ a, offB a + S1x64x4096.size a ≤ S8x64x4096.size a)
    (e : Fin 8) (hA : offA = ![e.val, 0, 0]) (hB : offB = ![e.val, 0, 0]) (r : Fin 256) (q : Fin 4096) :
    (∑ j : Fin 64, (∑ d : Fin 2048, x (ix2 r d) * VecWindow.window A offA S1x2048x64.size inbA (ix3 (0 : Fin 1) d j))
      * VecWindow.window B offB S1x64x4096.size inbB (ix3 (0 : Fin 1) j q)) = bprod x A B e r q := by
  refine Finset.sum_congr rfl fun j _ => ?_
  refine congrArg₂ (· * ·) (Finset.sum_congr rfl fun d _ => ?_) (windowB_apply B offB inbB e hB j q)
  exact congrArg (_ * ·) (windowA_apply A offA inbA e hA d j)

/-- The body's mask of a row: whether its slot is the trip's. -/
theorem sitofp_eq (w e : BitVec 32) : (FloatOps.sitofp (F := Ideal) .f32 ((IntOp.cmpi .eq w e).setWidth 32) : EReal) = mask w e := by
  unfold mask
  by_cases h : w = e
  · rw [if_pos h, IntOp.cmpi_eq.mpr h]
    show ((((1#1 : BitVec 1).setWidth 32).toInt : ℝ) : EReal) = 1
    norm_num
  · rw [if_neg h, show IntOp.cmpi .eq w e = 0#1 from eq_zero_of_ne_one (mt IntOp.cmpi_eq.mp h)]
    show ((((0#1 : BitVec 1).setWidth 32).toInt : ℝ) : EReal) = 0
    norm_num

/-! ## The two payloads -/

/-- A block that holds one slot is that slot's product. -/
theorem pay4_apply (a : S1x2048x64.Idx → EReal) (b : S1x64x4096.Idx → EReal) (r : Fin 256) (q : Fin 4096) :
    k0_pay4 (F := Ideal) x a b (ix2 r q) = ∑ j : Fin 64, (∑ d : Fin 2048, x (ix2 r d) * a (ix3 (0 : Fin 1) d j)) * b (ix3 (0 : Fin 1) j q) := by
  unfold k0_pay4
  refine (dotB_apply _ _ r q).trans (Finset.sum_congr rfl fun j _ => ?_)
  rw [truncf_apply, dotA_apply]
  refine congrArg₂ (· * ·) (Finset.sum_congr rfl fun d _ => ?_) (shapeCast_1ab_ab_apply b _ j q)
  exact congrArg (_ * ·) (shapeCast_1ab_ab_apply a _ d j)

/-- A trip adds its slot's product to the rows that have the slot. -/
theorem pay7_apply (v5 v10 : BitVec 32) (k : Fin (k0_t1_loop v5 v10).trips) (acc : S256x4096.Idx → EReal)
    (a : S1x2048x64.Idx → EReal) (b : S1x64x4096.Idx → EReal) (r : Fin 256) (q : Fin 4096) :
    k0_pay7 (F := Ideal) v5 v10 x s k acc a b (ix2 r q) = acc (ix2 r q) + if s (ix2 r (0 : Fin 1)) = Scf.iv v5 1#32 k then
      ∑ j : Fin 64, (∑ d : Fin 2048, x (ix2 r d) * a (ix3 (0 : Fin 1) d j)) * b (ix3 (0 : Fin 1) j q) else 0 := by
  unfold k0_pay7
  refine congrArg (acc (ix2 r q) + ·) ?_
  refine Eq.trans ?_ (masked_between (fun d => x (ix2 r d)) (fun d j => a (ix3 (0 : Fin 1) d j)) fun j => b (ix3 (0 : Fin 1) j q))
  refine (dotB_apply _ _ r q).trans (Finset.sum_congr rfl fun j _ => ?_)
  rw [truncf_apply, mulf_apply, dotA_apply]
  refine congrArg₂ (· * ·) (congrArg₂ (· * ·) (Finset.sum_congr rfl fun d _ => ?_) ?_) (shapeCast_1ab_ab_apply b _ j q)
  · exact congrArg (_ * ·) (shapeCast_1ab_ab_apply a _ d j)
  · refine (broadcastTo_apply _ broadcasts_S256x1_S256x64 (ix2 r j) (ix2 r (0 : Fin 1)) fun ax => ?_).trans ?_
    · match ax with
      | ⟨0, _⟩ => rfl
      | ⟨1, _⟩ => rfl
    · unfold k0_pay5
      rw [shapeCast_self]
      exact sitofp_eq _ _

/-! ## The loop -/

/-- Trip `k` works at slot `first + k`. -/
theorem iv_eq : ∀ a k : Fin 8, a.val + k.val < 8 → Scf.iv (BitVec.ofNat 32 a.val) 1#32 k.val = BitVec.ofNat 32 (a.val + k.val) := by
  decide

/-- Small literals are the same word only as the same number. -/
theorem lit_inj : ∀ a b : Fin 8, BitVec.ofNat 32 a.val = BitVec.ofNat 32 b.val ↔ a = b := by
  decide

/-- A slot's offset into the tables. -/
theorem off_eq : ∀ e : Fin 8, (Scalar.indexCast (BitVec.ofNat 32 e.val) : BitVec 32).toNat = e.val := by
  decide

/-- Before trip `k` a row whose slot has been met holds its slot's product, and every other row zero. -/
theorem accum_apply {a b : Fin 8} (hab : a ≤ b) (hw : k0_chk1 (BitVec.ofNat 32 a.val) (BitVec.ofNat 32 b.val))
    (h3 : k0_cond3 (BitVec.ofNat 32 a.val) (BitVec.ofNat 32 b.val) = 1#1) (r : Fin 256) (q : Fin 4096) (e : Fin 8)
    (he : s (ix2 r (0 : Fin 1)) = BitVec.ofNat 32 e.val) (hae : a ≤ e) (k : ℕ) (hk : k ≤ b.val + 1 - a.val) :
    accum (F := Ideal) _ _ hw h3 x s A B k (ix2 r q) = if e.val < a.val + k then bprod x A B e r q else 0 := by
  induction k with
  | zero =>
    rw [if_neg (by have : a.val ≤ e.val := hae; omega)]
    exact Ideal.ofBits_zero_f32
  | succ k ih =>
    have hkt : k < (k0_t1_loop (BitVec.ofNat 32 a.val) (BitVec.ofNat 32 b.val)).trips := by
      rw [Slots.trips_eq b a hab]; omega
    have hb := b.isLt
    have hiv := iv_eq a ⟨k, by omega⟩ (by show a.val + k < 8; omega)
    have hoff : ∀ (off : Fin 3 → ℕ), off = ![(Scalar.indexCast (Scf.iv (BitVec.ofNat 32 a.val) 1#32 k) : BitVec 32).toNat, 0, 0] →
        off = ![(⟨a.val + k, by omega⟩ : Fin 8).val, 0, 0] := by
      rintro _ rfl; rw [hiv]; rw [off_eq ⟨a.val + k, by omega⟩]
    rw [accum.eq_2, dif_pos hkt]
    refine (pay7_apply x s _ _ ⟨k, hkt⟩ _ _ _ r q).trans ?_
    refine (congrArg₂ (· + ·) (ih (by omega)) (if_congr (Q := BitVec.ofNat 32 e.val = BitVec.ofNat 32 (⟨a.val + k, by omega⟩ : Fin 8).val) (by rw [he]; exact Eq.congr_right hiv)
      (windows_sum x A B _ _ _ _ ⟨a.val + k, by omega⟩ (hoff _ rfl) (hoff _ rfl) r q) rfl)).trans ?_
    by_cases h : e.val = a.val + k
    · have h' : e = ⟨a.val + k, by omega⟩ := Fin.ext h
      rw [if_neg (by omega), if_pos (congrArg (BitVec.ofNat 32) h), if_pos (by omega), ← h', zero_add]
    · refine (congrArg (_ + ·) (if_neg fun hh => h (congrArg Fin.val ((lit_inj e ⟨a.val + k, by omega⟩).mp hh)))).trans ?_
      rw [add_zero]
      exact if_congr (by omega) rfl rfl

/-- The block at a row whose slot lies between the first row's and the last row's is the product of the row's slot. -/
theorem blockOut_apply {v5 v10 : BitVec 32} (h10 : v10.toNat < 8) (r : Fin 256) (q : Fin 4096) (e : Fin 8)
    (he : s (ix2 r (0 : Fin 1)) = BitVec.ofNat 32 e.val) (h5e : v5.toNat ≤ e.val) (he10 : e.val ≤ v10.toNat) :
    blockOut (F := Ideal) v5 v10 x s A B (ix2 r q) = bprod x A B e r q := by
  have hw : k0_chk1 v5 v10 := chk_of_le h10 (h5e.trans he10)
  by_cases h2 : k0_cond2 v5 v10 = 1#1
  · rw [blockOut_one hw h2, pay4_apply]
    have hv : v5 = v10 := by
      by_contra hne
      have := (cond3_iff v5 v10).mp
      exact absurd h2 (this ((Scalar.guard_iff _).mpr (IntOp.cmpi_ne.mpr hne)))
    subst hv
    have h5 : v5.toNat = e.val := le_antisymm h5e he10
    have ho : ∀ off : Fin 3 → ℕ, off = ![(Scalar.indexCast v5 : BitVec 32).toNat, 0, 0] → off = ![e.val, 0, 0] := by
      rintro _ rfl; rw [Slots.word_eq h5, off_eq]
    exact windows_sum x A B _ _ _ _ e (ho _ rfl) (ho _ rfl) r q
  · have h3 := (cond3_iff v5 v10).mpr h2
    rw [blockOut_many hw h3]
    obtain ⟨a, rfl⟩ : ∃ a : Fin 8, v5 = BitVec.ofNat 32 a.val := ⟨⟨v5.toNat, by omega⟩, Slots.word_eq rfl⟩
    obtain ⟨b, rfl⟩ : ∃ b : Fin 8, v10 = BitVec.ofNat 32 b.val := ⟨⟨v10.toNat, by omega⟩, Slots.word_eq rfl⟩
    have ea : (BitVec.ofNat 32 a.val).toNat = a.val := off_eq a
    have eb : (BitVec.ofNat 32 b.val).toNat = b.val := off_eq b
    rw [ea] at h5e; rw [eb] at he10
    have hab : a ≤ b := h5e.trans he10
    rw [Slots.trips_eq b a hab, accum_apply x s A B hab hw h3 r q e he h5e _ le_rfl, if_pos (by omega)]

end Cert.Proof.Ideal

end
-- ==== Proof.Equal.lean ====
/-
  The kernel's result is the reference's, over exact values and from a sorted slot table: the sixteen blocks tile the
  result, each row's block holds the product of that row's slot, and so does the reference's row.
-/
module

public import proofs.«01_k».proof.Proof.Block
public import Idealize.ShloMosaic.Lib.ValueLayoutCasts
public import Idealize.ShloMosaic.Lib.Pipeline.Value

@[expose] public section

noncomputable section

namespace Cert.Proof.Ideal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Proof.Slots
open scoped BigOperators

variable (m : (ℓ : Loc nD τ sig) → Buf (Elt Ideal) ℓ)

/-! ## What the windows read -/

/-- The block of rows a point takes or leaves starts at its number. -/
theorem t0_eq (t : Fin grid0.N) : cc0_transform_0 (grid0.coords t) = ![t.val, 0] := by
  revert t; decide
/-- The same of the slots' window, -/
theorem t1_eq (t : Fin grid0.N) : cc0_transform_1 (grid0.coords t) = ![t.val, 0] := by
  revert t; decide
/-- and of the result's. -/
theorem t4_eq (t : Fin grid0.N) : cc0_transform_4 (grid0.coords t) = ![t.val, 0] := by
  revert t; decide

/-- Where row `r` of the rows' block lies; -/
theorem emb0 (t : Fin grid0.N) (r : Fin 256) (d : Fin 2048) :
    (((cfg0 (adm m 0)).win 0).blk t).view.emb (ix2 r d) = (ix2 (rowIx t r) d : S4096x2048.Idx) := by
  funext a; apply Fin.ext
  match a with
  | ⟨0, _⟩ =>
    show cc0_transform_0 (grid0.coords t) 0 * 256 + 1 * r.val = 256 * t.val + r.val
    rw [t0_eq]; show t.val * 256 + 1 * r.val = _; omega
  | ⟨1, _⟩ =>
    show cc0_transform_0 (grid0.coords t) 1 * 2048 + 1 * d.val = d.val
    rw [t0_eq]; show 0 * 2048 + 1 * d.val = _; omega
/-- of the slots' block; -/
theorem emb1 (t : Fin grid0.N) (r : Fin 256) :
    (((cfg0 (adm m 0)).win 1).blk t).view.emb (ix2 r (0 : Fin 1)) = (ix2 (rowIx t r) (0 : Fin 1) : S4096x1.Idx) := by
  funext a; apply Fin.ext
  match a with
  | ⟨0, _⟩ =>
    show cc0_transform_1 (grid0.coords t) 0 * 256 + 1 * r.val = 256 * t.val + r.val
    rw [t1_eq]; show t.val * 256 + 1 * r.val = _; omega
  | ⟨1, _⟩ =>
    show cc0_transform_1 (grid0.coords t) 1 * 1 + 1 * 0 = 0
    rw [t1_eq]; rfl
/-- of the result's. -/
theorem emb4 (t : Fin grid0.N) (r : Fin 256) (q : Fin 4096) :
    (((cfg0 (adm m 0)).win 4).blk t).view.emb (ix2 r q) = (ix2 (rowIx t r) q : S4096x4096.Idx) := by
  funext a; apply Fin.ext
  match a with
  | ⟨0, _⟩ =>
    show cc0_transform_4 (grid0.coords t) 0 * 256 + 1 * r.val = 256 * t.val + r.val
    rw [t4_eq]; show t.val * 256 + 1 * r.val = _; omega
  | ⟨1, _⟩ =>
    show cc0_transform_4 (grid0.coords t) 1 * 4096 + 1 * q.val = q.val
    rw [t4_eq]; show 0 * 4096 + 1 * q.val = _; omega
/-- The tables' windows are the whole tables. -/
theorem emb2 (e : Fin 8) (d : Fin 2048) (j : Fin 64) :
    (((cfg0 (adm m 0)).win 2).blk t0_0).view.emb (ix3 e d j) = (ix3 e d j : S8x2048x64.Idx) := by
  funext a; apply Fin.ext
  match a with
  | ⟨0, _⟩ => show 0 * 8 + 1 * e.val = e.val; omega
  | ⟨1, _⟩ => show 0 * 2048 + 1 * d.val = d.val; omega
  | ⟨2, _⟩ => show 0 * 64 + 1 * j.val = j.val; omega
/-- The second one's too. -/
theorem emb3 (e : Fin 8) (j : Fin 64) (q : Fin 4096) :
    (((cfg0 (adm m 0)).win 3).blk t0_0).view.emb (ix3 e j q) = (ix3 e j q : S8x64x4096.Idx) := by
  funext a; apply Fin.ext
  match a with
  | ⟨0, _⟩ => show 0 * 8 + 1 * e.val = e.val; omega
  | ⟨1, _⟩ => show 0 * 64 + 1 * j.val = j.val; omega
  | ⟨2, _⟩ => show 0 * 4096 + 1 * q.val = q.val; omega

/-- The arguments, as arrays. -/
abbrev X0 (c : Dev nD) : S4096x2048.Idx → EReal := m ((c : Thread nD τ).loc main_arg0)
/-- The first table. -/
abbrev X1 (c : Dev nD) : S8x2048x64.Idx → EReal := m ((c : Thread nD τ).loc main_arg1)
/-- The second table. -/
abbrev X2 (c : Dev nD) : S8x64x4096.Idx → EReal := m ((c : Thread nD τ).loc main_arg2)

/-- Row `r` of the block of rows is the row itself; -/
theorem rowsAt_apply (c : Dev nD) (t : Fin grid0.N) (r : Fin 256) (d : Fin 2048) :
    rowsAt m c t (ix2 r d) = X0 m c (ix2 (rowIx t r) d) :=
  (congrArg (V m c main_arg0) (emb0 m t r d)).trans (congrFun (V_of_ne m c main_arg0 (by decide)) _)
/-- the first table's element is its own; -/
theorem tabA_apply (c : Dev nD) (e : Fin 8) (d : Fin 2048) (j : Fin 64) : k0_pay1 (tabA m c) (ix3 e d j) = X1 m c (ix3 e d j) := by
  unfold k0_pay1
  rw [shapeCast_self]
  exact (congrArg (V m c main_arg1) (emb2 m e d j)).trans (congrFun (V_of_ne m c main_arg1 (by decide)) _)
/-- so is the second's. -/
theorem tabB_apply (c : Dev nD) (e : Fin 8) (j : Fin 64) (q : Fin 4096) : k0_pay2 (tabB m c) (ix3 e j q) = X2 m c (ix3 e j q) := by
  unfold k0_pay2
  rw [shapeCast_self]
  exact (congrArg (V m c main_arg2) (emb3 m e j q)).trans (congrFun (V_of_ne m c main_arg2 (by decide)) _)

/-- The column of slots is the table of slots. -/
theorem V_slots (n : Fin 4096) : V m 0 main_v0 (ix2 n (0 : Fin 1) : S4096x1.Idx) = tbl m (ix1 n) := by
  have h : V m 0 main_v0 = shapeCast S4096x1 (tbl m) shapeCasts_S4096_S4096x1 := by
    show StableHlo.after hostOps0 (V₀ m 0) _ = _
    rw [StableHlo.after_cons, StableHlo.after_nil]
    exact StableHlo.reshape_result ..
  rw [h]
  exact shapeCast_a_a1_apply _ _ n 0
/-- Row `r`'s slot in the block of slots is the row's slot. -/
theorem slotsAt_apply (t : Fin grid0.N) (r : Fin 256) : slotsAt m 0 t (ix2 r (0 : Fin 1)) = tbl m (ix1 (rowIx t r)) :=
  (congrArg (V m 0 main_v0) (emb1 m t r)).trans (V_slots m _)

/-! ## The whole result -/

/-- A block's element is the reference's element there. -/
theorem outAt_apply (h : Sorted (tbl m)) (t : Fin grid0.N) (r : Fin 256) (q : Fin 4096) :
    outAt m 0 t (ix2 r q) = Cert.ReferenceIdeal.Read.val_main_v120 (F := Ideal) (X0 m 0) (X1 m 0) (X2 m 0) (tbl m) (ix2 (rowIx t r) q) := by
  have he := h.1 (ix1 (rowIx t r))
  have hw : tbl m (ix1 (rowIx t r)) = BitVec.ofNat 32 (⟨_, he⟩ : Fin 8).val := word_eq rfl
  rw [Product.reference_eq _ _ _ _ _ _ ⟨_, he⟩ hw]
  unfold outAt
  rw [slotLo_eq, slotHi_eq]
  refine (blockOut_apply _ _ _ _ (h.1 _) r q ⟨_, he⟩ ((slotsAt_apply m t r).trans hw)
    (h.2 _ _ (by show 256 * t.val + 0 ≤ 256 * t.val + r.val; omega)) (h.2 _ _ (by show 256 * t.val + r.val ≤ 256 * t.val + 255; omega))).trans ?_
  refine Finset.sum_congr rfl fun j _ => congrArg₂ (· * ·) (Finset.sum_congr rfl fun d _ => ?_) (tabB_apply m 0 _ j q)
  exact congrArg₂ (· * ·) (rowsAt_apply m 0 t r d) (tabA_apply m 0 _ d j)

/-- Every point writes its block back. -/
theorem flush4 (t : Fin grid0.N) : ((cfg0 (adm m 0)).win 4).flush t = true := by
  show Pipeline.Window.flushOf grid0 true cc0_transform_4 t = true
  revert t; decide

/-- The result array is the reference's. -/
theorem finalA_4 (h : Sorted (tbl m)) :
    finalA m 0 4 = Cert.ReferenceIdeal.Read.val_main_v120 (F := Ideal) (X0 m 0) (X1 m 0) (X2 m 0) (tbl m) := by
  refine (dats m 0 0).arrAt_eq_of_cover 4 _ (fun t _ => ?_) (fun (i : S4096x4096.Idx) => ?_)
  · refine funext fun (y : S256x4096.Idx) => ?_
    obtain ⟨r, q, rfl⟩ : ∃ (r : Fin 256) (q : Fin 4096), y = ix2 r q := ⟨y 0, y 1, eq_ix2 y⟩
    refine (outAt_apply m h t r q).trans ?_
    exact (congrArg (Cert.ReferenceIdeal.Read.val_main_v120 (F := Ideal) (X0 m 0) (X1 m 0) (X2 m 0) (tbl m)) (emb4 m t r q)).symm
  · obtain ⟨n, q, rfl⟩ : ∃ (n : Fin 4096) (q : Fin 4096), i = ix2 n q := ⟨i 0, i 1, eq_ix2 i⟩
    have hn := n.isLt
    let t : Fin grid0.N := ⟨n.val / 256, by show n.val / 256 < 16; omega⟩
    let r : Fin 256 := ⟨n.val % 256, Nat.mod_lt _ (by decide)⟩
    refine ⟨t, flush4 m t, ?_⟩
    have hr : rowIx t r = n := Fin.ext (Nat.div_add_mod n.val 256)
    have := (((cfg0 (adm m 0)).win 4).blk t).view.emb_mem_set (ix2 r q)
    rw [emb4, hr] at this
    exact this

end Cert.Proof.Ideal

end
-- ==== Proof.lean ====
/-
  The certificate: the frames of the kernel at both readings and of the reference, and the equation of the kernel's
  result with the reference's over exact arithmetic.
-/
module

public import proofs.«01_k».proof.Defs
public import proofs.«01_k».proof.Proof.BitFrame
public import proofs.«01_k».proof.Proof.IdealFrame
public import proofs.«01_k».proof.Proof.Equal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_sorted_slots
public import Idealize.ShloMosaic.Adequacy
public import Idealize.ShloMosaic.Init

@[expose] public section

noncomputable section

namespace Cert.Proof

open Idealize.ShloMosaic Idealize.SL.Sem

/-- The kernel at the chip's bits runs to its end from every sorted slot table, leaves its arguments as they were and
    every counter at zero. -/
theorem frame_bits : Cert.quiescent_Kernel := fun m ρ hpre =>
  (θ_run Cert.Kernel.defs _ _).mono (fun _ h => ⟨fun c => (h.1 c).2, h.2⟩)
    (Bit.run_args (F := Bits) m ρ (Slots.sorted_of_pre _ _ _ _ (hpre 0)))

/-- The same of its reading over exact values. -/
theorem frame_ideal : Cert.quiescent_KernelIdeal := fun m ρ hpre =>
  (θ_run Cert.KernelIdeal.defs _ _).mono (fun _ h => ⟨fun c => (h.1 c).2, h.2⟩)
    (Ideal.run_args (F := Ideal) m ρ (Slots.sorted_of_pre _ _ _ _ (hpre 0)))

/-- The reference runs to its end from every memory, leaves its arguments as they were, and has no counter. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over exact values, from the same arguments and a sorted slot table, the kernel and the reference both run to their
    ends with the same result, element by element, and leave their arguments as they were. -/
theorem algebraic : Cert.algebraic_KernelIdeal_ReferenceIdeal := fun m ρ m' ρ' hpre hargs => by
  have hs := Slots.sorted_of_pre _ _ _ _ (hpre 0)
  refine ⟨fun c => Ideal.finalA m c 4, ?_, ?_⟩
  · exact (θ_run Cert.KernelIdeal.defs _ _).mono (fun _ h => h.1) (Ideal.run_args (F := Ideal) m ρ hs)
  · refine (θ_run Cert.ReferenceIdeal.defs _ _).mono (fun _ h c => ⟨(h c).1.trans ?_, (h c).2⟩) (Cert.ReferenceIdeal.Value.run (F := Ideal) m' ρ')
    obtain rfl : c = 0 := Subsingleton.elim (α := Fin 1) _ _
    obtain ⟨h0, h1, h2, h3⟩ := hargs 0
    rw [Cert.ReferenceIdeal.Read.val_main_v120_eq, h0, h1, h2, h3]
    exact (Ideal.finalA_4 m hs).symm

/-- Everything the certificate claims. -/
theorem claim : Cert.Claim := ⟨Cert.Kernel.Gen.facts, Cert.KernelIdeal.Gen.facts, Cert.ReferenceIdeal.Gen.facts, Cert.Pre_sorted_slots.Gen.facts,
  frame_bits, frame_ideal, frame_ref, fun m ρ _ => frame_ref m ρ trivial, trivial, algebraic⟩

end Cert.Proof

end
